-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels [hPre_labels : Cert.Pre_labels.Facts] (m : (ℓ : Loc Cert.KernelIdeal.nD Cert.KernelIdeal.τ Cert.KernelIdeal.sig) → Buf (Elt Ideal) ℓ) : Prop :=
  ∀ c : Dev Cert.KernelIdeal.nD,
    (Cert.Pre_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels [hPre_labels : Cert.Pre_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels [hKernelIdeal : Cert.KernelIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels [hReferenceIdeal : Cert.ReferenceIdeal.Facts] [hPre_labels : Cert.Pre_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_labels [hKernelIdeal : Cert.KernelIdeal.Facts] [hReferenceIdeal : Cert.ReferenceIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels : Cert.Pre_labels.Facts),
    quiescent_Kernel (hKernel := hKernel)
    ∧ quiescent_KernelIdeal (hKernelIdeal := hKernelIdeal)
    ∧ quiescent_KernelIdeal_pre_labels (hKernelIdeal := hKernelIdeal) (hPre_labels := hPre_labels)
    ∧ quiescent_ReferenceIdeal (hReferenceIdeal := hReferenceIdeal)
    ∧ quiescent_ReferenceIdeal_pre_labels (hReferenceIdeal := hReferenceIdeal) (hPre_labels := hPre_labels)
    ∧ preserves_Kernel_KernelIdeal
    ∧ algebraic_KernelIdeal_ReferenceIdeal_pre_labels (hKernelIdeal := hKernelIdeal) (hReferenceIdeal := hReferenceIdeal) (hPre_labels := hPre_labels)
-- ==== Pre_labels.lean ====
abbrev S8x2048x8 : Shape := ⟨3, ![8, 2048, 8]⟩
abbrev S4x4 : Shape := ⟨2, ![4, 4]⟩
abbrev S4 : Shape := ⟨1, ![4]⟩
abbrev S8x1024 : Shape := ⟨2, ![8, 1024]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x2048x8 .f32) (main_arg1 : FVec F S4x4 .f32) (main_arg2 : FVec F S4 .f32) (main_arg3 : FVec F S4 .f32) (main_arg4 : IVec S8x1024 32) : IVec S_ 1 :=
  let main_c : IVec S_ 32 := constantI S_ 32 0#32
  let main_v0 : IVec S8x1024 32 := broadcastInDim S8x1024 ![] bcast_S_S8x1024 main_c
  let main_v1 : IVec S8x1024 1 := cmpi .sge main_arg4 main_v0
  let main_c_0 : IVec S_ 1 := constantI S_ 1 1#1
  let main_v2 : IVec S_ 1 := (fun x v => Host.reduce IntOp.andi x v reducesTo_S8x1024_S_d0_1 h_S_) main_v1 main_c_0
  let main_c_1 : IVec S_ 32 := constantI S_ 32 4#32
  let main_v3 : IVec S8x1024 32 := broadcastInDim S8x1024 ![] bcast_S_S8x1024 main_c_1
  let main_v4 : IVec S8x1024 1 := cmpi .slt main_arg4 main_v3
  let main_c_2 : IVec S_ 1 := constantI S_ 1 1#1
  let main_v5 : IVec S_ 1 := (fun x v => Host.reduce IntOp.andi x v reducesTo_S8x1024_S_d0_1 h_S_) main_v4 main_c_2
  let main_v6 : IVec S_ 1 := andi main_v2 main_v5
  main_v6
-- ==== Kernel.lean ====
abbrev S8x2048x8 : Shape := ⟨3, ![8, 2048, 8]⟩
abbrev S4x4 : Shape := ⟨2, ![4, 4]⟩
abbrev S4 : Shape := ⟨1, ![4]⟩
abbrev S8x1024 : Shape := ⟨2, ![8, 1024]⟩
abbrev S2048x8x8 : Shape := ⟨3, ![2048, 8, 8]⟩
abbrev S1x4 : Shape := ⟨2, ![1, 4]⟩
abbrev S1x1 : Shape := ⟨2, ![1, 1]⟩
abbrev S4x8x1024 : Shape := ⟨3, ![4, 8, 1024]⟩
abbrev S1x8x1024 : Shape := ⟨3, ![1, 8, 1024]⟩
abbrev S1x8x8 : Shape := ⟨3, ![1, 8, 8]⟩
abbrev S8x8 : Shape := ⟨2, ![8, 8]⟩
abbrev S8x4 : Shape := ⟨2, ![8, 4]⟩
abbrev S8x1 : Shape := ⟨2, ![8, 1]⟩
abbrev S8 : Shape := ⟨1, ![8]⟩
abbrev S1x8x1 : Shape := ⟨3, ![1, 8, 1]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x8, .f32⟩
  | .hbm, ⟨1, _⟩ => ⟨S4x4, .f32⟩
  | .hbm, ⟨2, _⟩ => ⟨S4, .f32⟩
  | .hbm, ⟨3, _⟩ => ⟨S4, .f32⟩
  | .hbm, ⟨4, _⟩ => ⟨S8x1024, .i32⟩
  | .hbm, ⟨5, _⟩ => ⟨S2048x8x8, .f32⟩
  | .hbm, ⟨6, _⟩ => ⟨S4x4, .f32⟩
  | .hbm, ⟨7, _⟩ => ⟨S1x4, .f32⟩
  | .hbm, ⟨8, _⟩ => ⟨S1x4, .f32⟩
  | .hbm, ⟨9, _⟩ => ⟨S1x1, .f32⟩
  | .hbm, ⟨10, _⟩ => ⟨S_, .f32⟩
  | .local _ .vmem, ⟨0, _⟩ => ⟨S2048x8x8, .f32⟩
  | .local _ .vmem, ⟨1, _⟩ => ⟨S4x4, .f32⟩
  | .local _ .vmem, ⟨2, _⟩ => ⟨S1x4, .f32⟩
  | .local _ .vmem, ⟨3, _⟩ => ⟨S1x4, .f32⟩
  | .local _ .vmem, ⟨4, _⟩ => ⟨S8x1024, .i32⟩
  | .local _ .vmem, ⟨5, _⟩ => ⟨S1x1, .f32⟩
  | .local _ .vmem, ⟨6, _⟩ => ⟨S4x8x1024, .f32⟩
  | .local _ .vmem, ⟨7, _⟩ => ⟨S8x1024, .f32⟩
  | _, _ => ⟨S8x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c1_i32_91 : BitVec 32 := 1#32
  let c2047_i32 : BitVec 32 := 2047#32
  let v209 : BitVec 32 := Scalar.addi c1_i32_91 c2047_i32
  let c1_i32_92 : BitVec 32 := 1#32
  ⟨c1_i32_91, v209, c1_i32_92⟩
def k0_off1 (k0_t1 : Fin k0_t1_loop.trips) : Fin 3 → Nat :=
  let c1_i32_91 : BitVec 32 := 1#32
  let c1_i32_92 : BitVec 32 := 1#32
  let arg8 : BitVec 32 := Scf.iv c1_i32_91 c1_i32_92 k0_t1
  let v261 : Index := Scalar.indexCast arg8
  let c0_113 : Index := 0#32
  let c0_114 : Index := 0#32
  ![v261.toNat, 0, 0]
abbrev stage0_0 : Fin 1 → Memref sig .tc .vmem S2048x8x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x2048x8 : Shape := ⟨3, ![8, 2048, 8]⟩
abbrev S4x4 : Shape := ⟨2, ![4, 4]⟩
abbrev S4 : Shape := ⟨1, ![4]⟩
abbrev S8x1024 : Shape := ⟨2, ![8, 1024]⟩
abbrev S8x2047x8 : Shape := ⟨3, ![8, 2047, 8]⟩
abbrev S2047x8x8 : Shape := ⟨3, ![2047, 8, 8]⟩
abbrev S1x4 : Shape := ⟨2, ![1, 4]⟩
abbrev S8x1x4 : Shape := ⟨3, ![8, 1, 4]⟩
abbrev S8x4 : Shape := ⟨2, ![8, 4]⟩
abbrev S_ : Shape := ⟨0, ![]⟩
abbrev S1x8x8 : Shape := ⟨3, ![1, 8, 8]⟩
abbrev S8x8 : Shape := ⟨2, ![8, 8]⟩
abbrev S8x4x1 : Shape := ⟨3, ![8, 4, 1]⟩
abbrev S1x4x4 : Shape := ⟨3, ![1, 4, 4]⟩
abbrev S8x4x4 : Shape := ⟨3, ![8, 4, 4]⟩
abbrev S8 : Shape := ⟨1, ![8]⟩
abbrev S8x1 : Shape := ⟨2, ![8, 1]⟩
abbrev S8x1023 : Shape := ⟨2, ![8, 1023]⟩
abbrev S8x1023x1 : Shape := ⟨3, ![8, 1023, 1]⟩
abbrev S8x1023x2 : Shape := ⟨3, ![8, 1023, 2]⟩
abbrev S8x1x1 : Shape := ⟨3, ![8, 1, 1]⟩
abbrev S1 : Shape := ⟨1, ![1]⟩
abbrev S1x1x1 : Shape := ⟨3, ![1, 1, 1]⟩
abbrev S8x1024x1 : Shape := ⟨3, ![8, 1024, 1]⟩

abbrev nBuf : Space → Nat
  | .hbm => 228
  | .vmem => 0
  | .smem => 0
  | _ => 0

abbrev hbmTy0_0 (i : Nat) : BufTy := match i % 128 with
  | 0 => ⟨S8x2048x8, .f32⟩
  | 1 => ⟨S4x4, .f32⟩
  | 2 => ⟨S4, .f32⟩
  | 3 => ⟨S4, .f32⟩
  | 4 => ⟨S8x1024, .i32⟩
  | 5 => ⟨S8x2047x8, .f32⟩
  | 6 => ⟨S2047x8x8, .f32⟩
  | 7 => ⟨S1x4, .f32⟩
  | 8 => ⟨S8x1x4, .f32⟩
  | 9 => ⟨S8x4, .f32⟩
  | 10 => ⟨S8x4, .f32⟩
  | 11 => ⟨S8x4, .f32⟩
  | 12 => ⟨S_, .i32⟩
  | 13 => ⟨S2047x8x8, .f32⟩
  | 14 => ⟨S4x4, .f32⟩
  | 15 => ⟨S_, .i32⟩
  | 16 => ⟨S8x4, .f32⟩
  | 17 => ⟨S_, .i32⟩
  | 18 => ⟨S_, .i1⟩
  | 19 => ⟨S_, .i32⟩
  | 20 => ⟨S_, .i32⟩
  | 21 => ⟨S1x8x8, .f32⟩
  | 22 => ⟨S8x8, .f32⟩
  | 23 => ⟨S8x4, .f32⟩
  | 24 => ⟨S8x4, .f32⟩
  | 25 => ⟨S8x4x1, .f32⟩
  | 26 => ⟨S1x4x4, .f32⟩
  | 27 => ⟨S8x4x4, .f32⟩
  | 28 => ⟨S8x4x4, .f32⟩
  | 29 => ⟨S8x4x4, .f32⟩
  | 30 => ⟨S_, .f32⟩
  | 31 => ⟨S8x4, .f32⟩
  | 32 => ⟨S8x1x4, .f32⟩
  | 33 => ⟨S8x4, .f32⟩
  | 34 => ⟨S8x4x4, .f32⟩
  | 35 => ⟨S8x4x4, .f32⟩
  | 36 => ⟨S8x4x4, .f32⟩
  | 37 => ⟨S_, .f32⟩
  | 38 => ⟨S8x4, .f32⟩
  | 39 => ⟨S8x4, .f32⟩
  | 40 => ⟨S8x4, .f32⟩
  | 41 => ⟨S8x4, .f32⟩
  | 42 => ⟨S8x4, .f32⟩
  | 43 => ⟨S8x4, .f32⟩
  | 44 => ⟨S8x4, .f32⟩
  | 45 => ⟨S8x4, .i1⟩
  | 46 => ⟨S8x4, .f32⟩
  | 47 => ⟨S8x4, .f32⟩
  | 48 => ⟨S8x4, .f32⟩
  | 49 => ⟨S8x4, .f32⟩
  | 50 => ⟨S8x4, .f32⟩
  | 51 => ⟨S8x4, .f32⟩
  | 52 => ⟨S8x4, .f32⟩
  | 53 => ⟨S_, .i32⟩
  | 54 => ⟨S_, .i32⟩
  | 55 => ⟨S1x4, .f32⟩
  | 56 => ⟨S8x4, .f32⟩
  | 57 => ⟨S8x4, .f32⟩
  | 58 => ⟨S_, .f32⟩
  | 59 => ⟨S8, .f32⟩
  | 60 => ⟨S8x1, .f32⟩
  | 61 => ⟨S8, .f32⟩
  | 62 => ⟨S8x4, .f32⟩
  | 63 => ⟨S8x4, .f32⟩
  | 64 => ⟨S8x4, .f32⟩
  | 65 => ⟨S_, .f32⟩
  | 66 => ⟨S8, .f32⟩
  | 67 => ⟨S8, .f32⟩
  | 68 => ⟨S8, .f32⟩
  | 69 => ⟨S8x1023, .i32⟩
  | 70 => ⟨S8x1023, .i32⟩
  | 71 => ⟨S_, .i32⟩
  | 72 => ⟨S8x1023, .i32⟩
  | 73 => ⟨S8x1023, .i1⟩
  | 74 => ⟨S_, .i32⟩
  | 75 => ⟨S8x1023, .i32⟩
  | 76 => ⟨S8x1023, .i32⟩
  | 77 => ⟨S8x1023, .i32⟩
  | 78 => ⟨S_, .i32⟩
  | 79 => ⟨S8x1023, .i32⟩
  | 80 => ⟨S8x1023, .i1⟩
  | 81 => ⟨S_, .i32⟩
  | 82 => ⟨S8x1023, .i32⟩
  | 83 => ⟨S8x1023, .i32⟩
  | 84 => ⟨S8x1023, .i32⟩
  | 85 => ⟨S8x1023x1, .i32⟩
  | 86 => ⟨S8x1023x1, .i32⟩
  | 87 => ⟨S8x1023x2, .i32⟩
  | 88 => ⟨S8x1023, .f32⟩
  | 89 => ⟨S8x1, .i32⟩
  | 90 => ⟨S8, .i32⟩
  | 91 => ⟨S_, .i32⟩
  | 92 => ⟨S8, .i32⟩
  | 93 => ⟨S8, .i1⟩
  | 94 => ⟨S_, .i32⟩
  | 95 => ⟨S8, .i32⟩
  | 96 => ⟨S8, .i32⟩
  | 97 => ⟨S8, .i32⟩
  | 98 => ⟨S8x1, .i32⟩
  | 99 => ⟨S8, .f32⟩
  | 100 => ⟨S8x1x4, .f32⟩
  | 101 => ⟨S8x4, .f32⟩
  | 102 => ⟨S8x1, .i32⟩
  | 103 => ⟨S_, .i32⟩
  | 104 => ⟨S8x1, .i32⟩
  | 105 => ⟨S8x1, .i1⟩
  | 106 => ⟨S_, .i32⟩
  | 107 => ⟨S8x1, .i32⟩
  | 108 => ⟨S8x1, .i32⟩
  | 109 => ⟨S8x1, .i32⟩
  | 110 => ⟨S8x1x1, .i32⟩
  | 111 => ⟨S1, .i32⟩
  | 112 => ⟨S_, .i32⟩
  | 113 => ⟨S8x1x1, .i32⟩
  | 114 => ⟨S8x1x1, .i1⟩
  | 115 => ⟨S1x1x1, .i32⟩
  | 116 => ⟨S8x1x1, .i32⟩
  | 117 => ⟨S8x1x1, .i1⟩
  | 118 => ⟨S8x1x1, .i1⟩
  | 119 => ⟨S_, .i1⟩
  | 120 => ⟨S8x1, .i1⟩
  | 121 => ⟨S8x1, .f32⟩
  | 122 => ⟨S_, .f32⟩
  | 123 => ⟨S8x1, .f32⟩
  | 124 => ⟨S8x1, .f32⟩
  | 125 => ⟨S8, .f32⟩
  | 126 => ⟨S8, .f32⟩
  | 127 => ⟨S_, .f32⟩
  | _ => ⟨S8x2048x8, .f32⟩

abbrev hbmTy0_1 (i : Nat) : BufTy := match i % 128 with
  | 0 => ⟨S8x1024, .f32⟩
  | 1 => ⟨S_, .i32⟩
  | 2 => ⟨S1, .i32⟩
  | 3 => ⟨S8x1024, .f32⟩
  | 4 => ⟨S_, .i32⟩
  | 5 => ⟨S2047x8x8, .f32⟩
  | 6 => ⟨S8x1024, .i32⟩
  | 7 => ⟨S8x1023, .f32⟩
  | 8 => ⟨S_, .i32⟩
  | 9 => ⟨S8x1024, .f32⟩
  | 10 => ⟨S_, .i32⟩
  | 11 => ⟨S_, .i1⟩
  | 12 => ⟨S_, .i32⟩
  | 13 => ⟨S_, .i32⟩
  | 14 => ⟨S1x8x8, .f32⟩
  | 15 => ⟨S8x8, .f32⟩
  | 16 => ⟨S8x4, .f32⟩
  | 17 => ⟨S8x4, .f32⟩
  | 18 => ⟨S_, .i32⟩
  | 19 => ⟨S8x1024, .i32⟩
  | 20 => ⟨S8x1024, .i1⟩
  | 21 => ⟨S_, .i32⟩
  | 22 => ⟨S8x1024, .i32⟩
  | 23 => ⟨S8x1024, .i32⟩
  | 24 => ⟨S8x1024, .i32⟩
  | 25 => ⟨S8x1024x1, .i32⟩
  | 26 => ⟨S1, .i32⟩
  | 27 => ⟨S_, .i32⟩
  | 28 => ⟨S8x1024x1, .i32⟩
  | 29 => ⟨S8x1024x1, .i1⟩
  | 30 => ⟨S1x1x1, .i32⟩
  | 31 => ⟨S8x1024x1, .i32⟩
  | 32 => ⟨S8x1024x1, .i1⟩
  | 33 => ⟨S8x1024x1, .i1⟩
  | 34 => ⟨S_, .i1⟩
  | 35 => ⟨S8x1024, .i1⟩
  | 36 => ⟨S8x1024, .f32⟩
  | 37 => ⟨S_, .f32⟩
  | 38 => ⟨S8x1024, .f32⟩
  | 39 => ⟨S8x1024, .f32⟩
  | 40 => ⟨S_, .i32⟩
  | 41 => ⟨S8x1024, .i32⟩
  | 42 => ⟨S8x1024, .i1⟩
  | 43 => ⟨S_, .i32⟩
  | 44 => ⟨S8x1024, .i32⟩
  | 45 => ⟨S8x1024, .i32⟩
  | 46 => ⟨S8x1024, .i32⟩
  | 47 => ⟨S8x1024x1, .i32⟩
  | 48 => ⟨S1, .i32⟩
  | 49 => ⟨S_, .i32⟩
  | 50 => ⟨S8x1024x1, .i32⟩
  | 51 => ⟨S8x1024x1, .i1⟩
  | 52 => ⟨S1x1x1, .i32⟩
  | 53 => ⟨S8x1024x1, .i32⟩
  | 54 => ⟨S8x1024x1, .i1⟩
  | 55 => ⟨S8x1024x1, .i1⟩
  | 56 => ⟨S_, .i1⟩
  | 57 => ⟨S8x1024, .i1⟩
  | 58 => ⟨S8x1024, .f32⟩
  | 59 => ⟨S_, .f32⟩
  | 60 => ⟨S8x1024, .f32⟩
  | 61 => ⟨S8x1024, .f32⟩
  | 62 => ⟨S8x1024, .f32⟩
  | 63 => ⟨S_, .f32⟩
  | 64 => ⟨S8x1, .f32⟩
  | 65 => ⟨S8x1023, .f32⟩
  | 66 => ⟨S8x1023, .f32⟩
  | 67 => ⟨S8x1024, .f32⟩
  | 68 => ⟨S8x1024, .f32⟩
  | 69 => ⟨S8x1024, .f32⟩
  | 70 => ⟨S8x1024, .f32⟩
  | 71 => ⟨S8x1024, .i1⟩
  | 72 => ⟨S8x1024, .f32⟩
  | 73 => ⟨S8x1024, .f32⟩
  | 74 => ⟨S8x1024, .f32⟩
  | 75 => ⟨S8x1024, .f32⟩
  | 76 => ⟨S8x1024, .f32⟩
  | 77 => ⟨S8x1024, .f32⟩
  | 78 => ⟨S8x1024, .f32⟩
  | 79 => ⟨S_, .i32⟩
  | 80 => ⟨S_, .i32⟩
  | 81 => ⟨S8x1, .f32⟩
  | 82 => ⟨S8, .f32⟩
  | 83 => ⟨S8x1, .i32⟩
  | 84 => ⟨S8, .i32⟩
  | 85 => ⟨S_, .i32⟩
  | 86 => ⟨S8, .i32⟩
  | 87 => ⟨S8, .i1⟩
  | 88 => ⟨S_, .i32⟩
  | 89 => ⟨S8, .i32⟩
  | 90 => ⟨S8, .i32⟩
  | 91 => ⟨S8, .i32⟩
  | 92 => ⟨S8x1, .i32⟩
  | 93 => ⟨S8, .f32⟩
  | 94 => ⟨S8, .f32⟩
  | 95 => ⟨S8, .f32⟩
  | 96 => ⟨S_, .f32⟩
  | 97 => ⟨S_, .f32⟩
  | 98 => ⟨S_, .f32⟩
  | 99 => ⟨S_, .f32⟩
  | _ => ⟨S8x2048x8, .f32⟩

abbrev hbmTy (i : Nat) : BufTy := match i / 128 with
  | 0 => hbmTy0_0 i
  | 1 => hbmTy0_1 i
  | _ => ⟨S8x2048x8, .f32⟩

abbrev bufTy : (tb : Table) → Fin (tcTables nBuf tb) → BufTy
  | .hbm, ⟨i, _⟩ => hbmTy i
  | _, _ => ⟨S8x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_while0c_c_17 : Ref sig .tc := ⟨.hbm, 17, rfl⟩
abbrev main_while0c_v70 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v70 : Ref sig .tc := ⟨.hbm, 22, rfl⟩
abbrev main_while0b_v71 : Ref sig .tc := ⟨.hbm, 23, rfl⟩
abbrev main_while0b_v72 : Ref sig .tc := ⟨.hbm, 24, rfl⟩
abbrev main_while0b_v73 : Ref sig .tc := ⟨.hbm, 25, rfl⟩
abbrev main_while0b_v74 : Ref sig .tc := ⟨.hbm, 26, rfl⟩
abbrev main_while0b_v75 : Ref sig .tc := ⟨.hbm, 27, rfl⟩
abbrev main_while0b_v76 : Ref sig .tc := ⟨.hbm, 28, rfl⟩
abbrev main_while0b_v77 : Ref sig .tc := ⟨.hbm, 29, rfl⟩
abbrev main_while0b_cst_17 : Ref sig .tc := ⟨.hbm, 30, rfl⟩
abbrev main_while0b_v78 : Ref sig .tc := ⟨.hbm, 31, rfl⟩
abbrev main_while0b_v79 : Ref sig .tc := ⟨.hbm, 32, rfl⟩
abbrev main_while0b_v80 : Ref sig .tc := ⟨.hbm, 33, rfl⟩
abbrev main_while0b_v81 : Ref sig .tc := ⟨.hbm, 34, rfl⟩
abbrev main_while0b_v82 : Ref sig .tc := ⟨.hbm, 35, rfl⟩
abbrev main_while0b_v83 : Ref sig .tc := ⟨.hbm, 36, rfl⟩
abbrev main_while0b_cst_18 : Ref sig .tc := ⟨.hbm, 37, rfl⟩
abbrev main_while0b_v84 : Ref sig .tc := ⟨.hbm, 38, rfl⟩
abbrev main_while0b_v85 : Ref sig .tc := ⟨.hbm, 39, rfl⟩
abbrev main_while0b_v86 : Ref sig .tc := ⟨.hbm, 40, rfl⟩
abbrev main_while0b_v87 : Ref sig .tc := ⟨.hbm, 41, rfl⟩
abbrev main_while0b_v88 : Ref sig .tc := ⟨.hbm, 42, rfl⟩
abbrev main_while0b_v89 : Ref sig .tc := ⟨.hbm, 43, rfl⟩
abbrev main_while0b_v90 : Ref sig .tc := ⟨.hbm, 44, rfl⟩
abbrev main_while0b_v91 : Ref sig .tc := ⟨.hbm, 45, rfl⟩
abbrev main_while0b_v92 : Ref sig .tc := ⟨.hbm, 46, rfl⟩
abbrev main_while0b_v93 : Ref sig .tc := ⟨.hbm, 47, rfl⟩
abbrev main_while0b_v94 : Ref sig .tc := ⟨.hbm, 48, rfl⟩
abbrev main_while0b_v95 : Ref sig .tc := ⟨.hbm, 49, rfl⟩
abbrev main_while0b_v96 : Ref sig .tc := ⟨.hbm, 50, rfl⟩
abbrev main_while0b_v97 : Ref sig .tc := ⟨.hbm, 51, rfl⟩
abbrev main_while0b_v98 : Ref sig .tc := ⟨.hbm, 52, rfl⟩
abbrev main_while0b_c_19 : Ref sig .tc := ⟨.hbm, 53, rfl⟩
abbrev main_while0b_v99 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_0 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_1 : Ref sig .tc := ⟨.hbm, 71, rfl⟩
abbrev main_v22 : Ref sig .tc := ⟨.hbm, 72, rfl⟩
abbrev main_v23 : Ref sig .tc := ⟨.hbm, 73, rfl⟩
abbrev main_c_2 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_3 : Ref sig .tc := ⟨.hbm, 78, rfl⟩
abbrev main_v27 : Ref sig .tc := ⟨.hbm, 79, rfl⟩
abbrev main_v28 : Ref sig .tc := ⟨.hbm, 80, rfl⟩
abbrev main_c_4 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_5 : Ref sig .tc := ⟨.hbm, 91, rfl⟩
abbrev main_v38 : Ref sig .tc := ⟨.hbm, 92, rfl⟩
abbrev main_v39 : Ref sig .tc := ⟨.hbm, 93, rfl⟩
abbrev main_c_6 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_call1_c : Ref sig .tc := ⟨.hbm, 103, rfl⟩
abbrev main_call1_v0 : Ref sig .tc := ⟨.hbm, 104, rfl⟩
abbrev main_call1_v1 : Ref sig .tc := ⟨.hbm, 105, rfl⟩
abbrev main_call1_c_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_c_1 : Ref sig .tc := ⟨.hbm, 111, rfl⟩
abbrev main_call1_c_2 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_c_3 : Ref sig .tc := ⟨.hbm, 119, rfl⟩
abbrev main_call1_v12 : Ref sig .tc := ⟨.hbm, 120, rfl⟩
abbrev main_call1_v13 : Ref sig .tc := ⟨.hbm, 121, rfl⟩
abbrev main_call1_cst : Ref sig .tc := ⟨.hbm, 122, rfl⟩
abbrev main_call1_v14 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_cst_7 : Ref sig .tc := ⟨.hbm, 127, rfl⟩
abbrev main_v51 : Ref sig .tc := ⟨.hbm, 128, rfl⟩
abbrev main_c_8 : Ref sig .tc := ⟨.hbm, 129, rfl⟩
abbrev main_v52 : Ref sig .tc := ⟨.hbm, 130, rfl⟩
abbrev main_v53 : Ref sig .tc := ⟨.hbm, 131, rfl⟩
abbrev main_c_9 : Ref sig .tc := ⟨.hbm, 132, rfl⟩
abbrev main_v54_0 : Ref sig .tc := ⟨.hbm, 133, rfl⟩
abbrev main_v54_1 : Ref sig .tc := ⟨.hbm, 134, rfl⟩
abbrev main_v54_2 : Ref sig .tc := ⟨.hbm, 135, rfl⟩
abbrev main_v54_3 : Ref sig .tc := ⟨.hbm, 136, rfl⟩
abbrev main_v54_4 : Ref sig .tc := ⟨.hbm, 137, rfl⟩
abbrev main_while1c_c_18 : Ref sig .tc := ⟨.hbm, 138, rfl⟩
abbrev main_while1c_v70 : Ref sig .tc := ⟨.hbm, 139, rfl⟩
abbrev main_while1b_call2_c : Ref sig .tc := ⟨.hbm, 140, rfl⟩
abbrev main_while1b_call2_c_0 : Ref sig .tc := ⟨.hbm, 141, rfl⟩
abbrev main_while1b_call2_v0 : Ref sig .tc := ⟨.hbm, 142, rfl⟩
abbrev main_while1b_v70 : Ref sig .tc := ⟨.hbm, 143, rfl⟩
abbrev main_while1b_v71 : Ref sig .tc := ⟨.hbm, 144, rfl⟩
abbrev main_while1b_v72 : Ref sig .tc := ⟨.hbm, 145, rfl⟩
abbrev main_while1b_call3_c : Ref sig .tc := ⟨.hbm, 146, rfl⟩
abbrev main_while1b_call3_v0 : Ref sig .tc := ⟨.hbm, 147, rfl⟩
abbrev main_while1b_call3_v1 : Ref sig .tc := ⟨.hbm, 148, rfl⟩
abbrev main_while1b_call3_c_0 : Ref sig .tc := ⟨.hbm, 149, rfl⟩
abbrev main_while1b_call3_v2 : Ref sig .tc := ⟨.hbm, 150, rfl⟩
abbrev main_while1b_call3_v3 : Ref sig .tc := ⟨.hbm, 151, rfl⟩
abbrev main_while1b_call3_v4 : Ref sig .tc := ⟨.hbm, 152, rfl⟩
abbrev main_while1b_call3_v5 : Ref sig .tc := ⟨.hbm, 153, rfl⟩
abbrev main_while1b_call3_c_1 : Ref sig .tc := ⟨.hbm, 154, rfl⟩
abbrev main_while1b_call3_c_2 : Ref sig .tc := ⟨.hbm, 155, rfl⟩
abbrev main_while1b_call3_v6 : Ref sig .tc := ⟨.hbm, 156, rfl⟩
abbrev main_while1b_call3_v7 : Ref sig .tc := ⟨.hbm, 157, rfl⟩
abbrev main_while1b_call3_v8 : Ref sig .tc := ⟨.hbm, 158, rfl⟩
abbrev main_while1b_call3_v9 : Ref sig .tc := ⟨.hbm, 159, rfl⟩
abbrev main_while1b_call3_v10 : Ref sig .tc := ⟨.hbm, 160, rfl⟩
abbrev main_while1b_call3_v11 : Ref sig .tc := ⟨.hbm, 161, rfl⟩
abbrev main_while1b_call3_c_3 : Ref sig .tc := ⟨.hbm, 162, rfl⟩
abbrev main_while1b_call3_v12 : Ref sig .tc := ⟨.hbm, 163, rfl⟩
abbrev main_while1b_call3_v13 : Ref sig .tc := ⟨.hbm, 164, rfl⟩
abbrev main_while1b_call3_cst : Ref sig .tc := ⟨.hbm, 165, rfl⟩
abbrev main_while1b_call3_v14 : Ref sig .tc := ⟨.hbm, 166, rfl⟩
abbrev main_while1b_v73 : Ref sig .tc := ⟨.hbm, 167, rfl⟩
abbrev main_while1b_call4_c : Ref sig .tc := ⟨.hbm, 168, rfl⟩
abbrev main_while1b_call4_v0 : Ref sig .tc := ⟨.hbm, 169, rfl⟩
abbrev main_while1b_call4_v1 : Ref sig .tc := ⟨.hbm, 170, rfl⟩
abbrev main_while1b_call4_c_0 : Ref sig .tc := ⟨.hbm, 171, rfl⟩
abbrev main_while1b_call4_v2 : Ref sig .tc := ⟨.hbm, 172, rfl⟩
abbrev main_while1b_call4_v3 : Ref sig .tc := ⟨.hbm, 173, rfl⟩
abbrev main_while1b_call4_v4 : Ref sig .tc := ⟨.hbm, 174, rfl⟩
abbrev main_while1b_call4_v5 : Ref sig .tc := ⟨.hbm, 175, rfl⟩
abbrev main_while1b_call4_c_1 : Ref sig .tc := ⟨.hbm, 176, rfl⟩
abbrev main_while1b_call4_c_2 : Ref sig .tc := ⟨.hbm, 177, rfl⟩
abbrev main_while1b_call4_v6 : Ref sig .tc := ⟨.hbm, 178, rfl⟩
abbrev main_while1b_call4_v7 : Ref sig .tc := ⟨.hbm, 179, rfl⟩
abbrev main_while1b_call4_v8 : Ref sig .tc := ⟨.hbm, 180, rfl⟩
abbrev main_while1b_call4_v9 : Ref sig .tc := ⟨.hbm, 181, rfl⟩
abbrev main_while1b_call4_v10 : Ref sig .tc := ⟨.hbm, 182, rfl⟩
abbrev main_while1b_call4_v11 : Ref sig .tc := ⟨.hbm, 183, rfl⟩
abbrev main_while1b_call4_c_3 : Ref sig .tc := ⟨.hbm, 184, rfl⟩
abbrev main_while1b_call4_v12 : Ref sig .tc := ⟨.hbm, 185, rfl⟩
abbrev main_while1b_call4_v13 : Ref sig .tc := ⟨.hbm, 186, rfl⟩
abbrev main_while1b_call4_cst : Ref sig .tc := ⟨.hbm, 187, rfl⟩
abbrev main_while1b_call4_v14 : Ref sig .tc := ⟨.hbm, 188, rfl⟩
abbrev main_while1b_v74 : Ref sig .tc := ⟨.hbm, 189, rfl⟩
abbrev main_while1b_v75 : Ref sig .tc := ⟨.hbm, 190, rfl⟩
abbrev main_while1b_cst_18 : Ref sig .tc := ⟨.hbm, 191, rfl⟩
abbrev main_while1b_v76 : Ref sig .tc := ⟨.hbm, 192, rfl⟩
abbrev main_while1b_v77 : Ref sig .tc := ⟨.hbm, 193, rfl⟩
abbrev main_while1b_v78 : Ref sig .tc := ⟨.hbm, 194, rfl⟩
abbrev main_while1b_v79 : Ref sig .tc := ⟨.hbm, 195, rfl⟩
abbrev main_while1b_v80 : Ref sig .tc := ⟨.hbm, 196, rfl⟩
abbrev main_while1b_v81 : Ref sig .tc := ⟨.hbm, 197, rfl⟩
abbrev main_while1b_v82 : Ref sig .tc := ⟨.hbm, 198, rfl⟩
abbrev main_while1b_v83 : Ref sig .tc := ⟨.hbm, 199, rfl⟩
abbrev main_while1b_v84 : Ref sig .tc := ⟨.hbm, 200, rfl⟩
abbrev main_while1b_v85 : Ref sig .tc := ⟨.hbm, 201, rfl⟩
abbrev main_while1b_v86 : Ref sig .tc := ⟨.hbm, 202, rfl⟩
abbrev main_while1b_v87 : Ref sig .tc := ⟨.hbm, 203, rfl⟩
abbrev main_while1b_v88 : Ref sig .tc := ⟨.hbm, 204, rfl⟩
abbrev main_while1b_v89 : Ref sig .tc := ⟨.hbm, 205, rfl⟩
abbrev main_while1b_v90 : Ref sig .tc := ⟨.hbm, 206, rfl⟩
abbrev main_while1b_c_19 : Ref sig .tc := ⟨.hbm, 207, rfl⟩
abbrev main_while1b_v91 : Ref sig .tc := ⟨.hbm, 208, rfl⟩
abbrev main_v55 : Ref sig .tc := ⟨.hbm, 209, rfl⟩
abbrev main_v56 : Ref sig .tc := ⟨.hbm, 210, rfl⟩
abbrev main_v57 : Ref sig .tc := ⟨.hbm, 211, rfl⟩
abbrev main_v58 : Ref sig .tc := ⟨.hbm, 212, rfl⟩
abbrev main_c_10 : Ref sig .tc := ⟨.hbm, 213, rfl⟩
abbrev main_v59 : Ref sig .tc := ⟨.hbm, 214, rfl⟩
abbrev main_v60 : Ref sig .tc := ⟨.hbm, 215, rfl⟩
abbrev main_c_11 : Ref sig .tc := ⟨.hbm, 216, rfl⟩
abbrev main_v61 : Ref sig .tc := ⟨.hbm, 217, rfl⟩
abbrev main_v62 : Ref sig .tc := ⟨.hbm, 218, rfl⟩
abbrev main_v63 : Ref sig .tc := ⟨.hbm, 219, rfl⟩
abbrev main_v64 : Ref sig .tc := ⟨.hbm, 220, rfl⟩
abbrev main_v65 : Ref sig .tc := ⟨.hbm, 221, rfl⟩
abbrev main_v66 : Ref sig .tc := ⟨.hbm, 222, rfl⟩
abbrev main_v67 : Ref sig .tc := ⟨.hbm, 223, rfl⟩
abbrev main_cst_12 : Ref sig .tc := ⟨.hbm, 224, rfl⟩
abbrev main_v68 : Ref sig .tc := ⟨.hbm, 225, rfl⟩
abbrev main_cst_13 : Ref sig .tc := ⟨.hbm, 226, rfl⟩
abbrev main_v69 : Ref sig .tc := ⟨.hbm, 227, rfl⟩

abbrev nD : Nat := 1
abbrev τ : Topo := Topo.v7x

variable {F : FTy → Type} [FloatOps F]

abbrev main_while0_count : Scf.Loop 32 := ⟨0#32, 2047#32, 1#32⟩

abbrev main_while1_count : Scf.Loop 32 := ⟨0#32, 2047#32, 1#32⟩
-- ==== Proof.Spec.lean ====
module

public import Idealize.ShloMosaic.Lib.Pointwise

/-!
# The forward recursions, in plain terms

The two programs meet here.  `Crf` is the input read as numbers: emission scores, transition scores,
start and end scores, and the target state of each position.  `den` is the forward vector over the
four states after `k` steps; `num` is the forward vector over the target positions after `k` steps;
`loss` is the mean over the batch of the difference of the two final log-sums.

The recursions are stated with the ideal operations on extended reals, in the order in which both
programs apply them.  The only reordering between the programs is the order of the two arguments of
the two-term log-sum, which `lae_comm` allows.
-/

@[expose] public section

noncomputable section

namespace Cert.Spec

open Idealize.ShloMosaic

/-- The number with which the unreachable positions start. -/
abbrev neg : EReal := Ideal.ofBits .f32 0xF149F2CA#32

/-- The two-term log-sum, shifted by the greater term. -/
def lae (a b : EReal) : EReal :=
  max a b + Ideal.log1p (Ideal.exp (0 - FloatOps.absf (F := Ideal) (φ := .f32) (a - b)))

/-- The four-term log-sum, shifted by the greatest term. -/
def lse (f : Fin 4 → EReal) : EReal :=
  Finset.fold max (Ideal.ofBits .f32 0xFF800000#32) f Finset.univ +
    Ideal.log (∑ x, Ideal.exp (f x - Finset.fold max (Ideal.ofBits .f32 0xFF800000#32) f Finset.univ))

/-- The score column of entering state `j`. -/
abbrev enter (j : Fin 4) : Fin 8 := ⟨j.val, by omega⟩

/-- The score column of staying in state `j`. -/
abbrev stay (j : Fin 4) : Fin 8 := ⟨4 + j.val, by omega⟩

/-- The position before `l`, around the end. -/
abbrev prev (l : Fin 1024) : Fin 1024 := ⟨(l.val + 1024 - 1) % 1024, Nat.mod_lt _ (by decide)⟩

/-- The input of the problem, read as numbers. -/
structure Crf where
  /-- Score of batch entry `b` at time `t` in column `j`. -/
  em : Fin 8 → ℕ → Fin 8 → EReal
  /-- Score of a transition from state `i` to state `j`. -/
  tr : Fin 4 → Fin 4 → EReal
  /-- Score of starting in a state. -/
  bos : Fin 4 → EReal
  /-- Score of ending in a state. -/
  eos : Fin 4 → EReal
  /-- Target state of batch entry `b` at position `l`. -/
  tg : Fin 8 → Fin 1024 → Fin 4

variable (p : Crf)

/-- One step of the forward vector over the states, at the scores `e` of one time. -/
def denStep (e : Fin 8 → EReal) (α : Fin 4 → EReal) (j : Fin 4) : EReal :=
  lae (α j + e (stay j)) (lse (fun i => α i + p.tr i j) + e (enter j))

/-- One step of the forward vector over the target positions of batch entry `b`, at the scores `e`
    of one time. -/
def numStep (b : Fin 8) (e : Fin 8 → EReal) (a : Fin 1024 → EReal) (l : Fin 1024) : EReal :=
  lae (a l + e (stay (p.tg b l)))
    ((if l.val = 0 then neg else a (prev l) + p.tr (p.tg b (prev l)) (p.tg b l)) + e (enter (p.tg b l)))

/-- The forward vector over the states after `k` steps. -/
def den : ℕ → Fin 8 → Fin 4 → EReal
  | 0, b, j => p.bos j + p.em b 0 (enter j)
  | k + 1, b, j => denStep p (p.em b (k + 1)) (den k b) j

/-- The forward vector over the target positions after `k` steps. -/
def num : ℕ → Fin 8 → Fin 1024 → EReal
  | 0, b, l => if l.val = 0 then p.bos (p.tg b 0) + p.em b 0 (enter (p.tg b 0)) else neg
  | k + 1, b, l => numStep p b (p.em b (k + 1)) (num k b) l

/-- The mean over the batch of the difference of the two final log-sums, `D` and `A` the final
    vectors over the states and over the target positions. -/
def lossOf (D : Fin 8 → Fin 4 → EReal) (A : Fin 8 → Fin 1024 → EReal) : EReal :=
  Ideal.div (∑ b : Fin 8, (lse (fun j => D b j + p.eos j) - (A b 1023 + p.eos (p.tg b 1023))))
    (Ideal.ofBits .f32 0x41000000#32)

/-- The mean of the differences after all steps. -/
def loss : EReal := lossOf p (den p 2047) (num p 2047)

/-- The magnitude of a difference does not depend on the order of its terms. -/
theorem absf_sub_comm (a b : EReal) :
    FloatOps.absf (F := Ideal) (φ := .f32) (a - b) = FloatOps.absf (F := Ideal) (φ := .f32) (b - a) := by
  show max (a - b) (-(a - b)) = max (b - a) (-(b - a))
  induction a with
  | bot => induction b with
    | bot => rfl
    | coe y => simp
    | top => simp
  | coe x => induction b with
    | bot => simp
    | coe y => rw [max_comm]; congr 1 <;> norm_cast <;> ring
    | top => simp
  | top => induction b with
    | bot => simp
    | coe y => simp
    | top => rfl

/-- The two-term log-sum does not depend on the order of its terms. -/
theorem lae_comm (a b : EReal) : lae a b = lae b a := by
  unfold lae; rw [max_comm, absf_sub_comm]

/-- The mask of state `k` at a position whose target is `t`: one where they agree, zero elsewhere. -/
theorem mask_eq (t k : Fin 4) :
    FloatOps.sitofp (F := Ideal) .f32 (BitVec.setWidth 32 (IntOp.cmpi .eq (BitVec.ofNat 32 t.val) (BitVec.ofNat 32 k.val)))
      = if t = k then (1 : EReal) else 0 := by
  show (((BitVec.setWidth 32 (IntOp.cmpi .eq (BitVec.ofNat 32 t.val) (BitVec.ofNat 32 k.val))).toInt : ℝ) : EReal) = _
  have h : (BitVec.setWidth 32 (IntOp.cmpi .eq (BitVec.ofNat 32 t.val) (BitVec.ofNat 32 k.val))).toInt
      = if t = k then 1 else 0 := by
    revert t k; decide
  rw [h]
  split <;> simp

/-- A sum of the four entries, each multiplied by its mask, is the entry of the target. -/
theorem pick4 (t : Fin 4) (f : Fin 4 → EReal) :
    (if t = 0 then (1 : EReal) else 0) * f 0 + (if t = 1 then (1 : EReal) else 0) * f 1
      + (if t = 2 then (1 : EReal) else 0) * f 2 + (if t = 3 then (1 : EReal) else 0) * f 3 = f t := by
  fin_cases t <;> simp

end Cert.Spec
-- ==== Proof.KerTrip.lean ====
module

public import proofs.«01_k».proof.Proof.Spec
public import proofs.«01_k».proof.Proof.Gen.KernelIdeal.Skeleton

/-!
# One trip of the kernel's loop, at an index

The kernel keeps four planes of zeros and ones, one per state, that tell where the target is that
state, and picks a target's score by a sum of four products.  Read at an index, one trip of its loop is
the step of `Spec`: `trip_num` for the vector over the target positions, `trip_den` for the vector over
the states.
-/

@[expose] public section

set_option maxRecDepth 16384

noncomputable section

namespace Cert.KernelIdeal.Val

open Idealize.ShloMosaic Cert.KernelIdeal Cert.KernelIdeal.Gen Cert.Spec

/-- A plane of the target masks: one where the target is state `k`, zero elsewhere. -/
def Plane (p : Crf) (k : Fin 4) (P : S1x8x1024.Idx → EReal) : Prop :=
  ∀ (b : Fin 8) (l : Fin 1024), P (ix3 0 b l) = if p.tg b l = k then 1 else 0

/-- The lane numbers. -/
def Lanes (v : IVec S8x1024 32) : Prop :=
  ∀ (b : Fin 8) (l : Fin 1024), v (ix2 b l) = BitVec.ofNat 32 l.val

/-- A word that holds a lane number is zero only at lane zero. -/
theorem lane_zero {α : Type} (l : Fin 1024) (x y : α) :
    Scalar.select (IntOp.cmpi .eq (BitVec.ofNat 32 l.val) 0#32) x y = if l.val = 0 then x else y := by
  by_cases h : l.val = 0
  · rw [if_pos h, h]; rfl
  · have h' : BitVec.ofNat 32 l.val ≠ 0#32 := by
      intro e
      have := congrArg BitVec.toNat e
      simp at this
      omega
    rw [if_neg h]
    have hb : (BitVec.ofNat 32 l.val == 0#32) = false := by simpa using h'
    show (if BitVec.ofBool (BitVec.ofNat 32 l.val == 0#32) = 1#1 then x else y) = y
    rw [hb]; rfl

variable (p : Crf)

/-- One trip of the vector over the target positions. -/
theorem trip_num (v31 : IVec S8x1024 32) (hv : Lanes v31) (row : Vec Ideal S1x8x8 .f32) (e : Fin 8 → Fin 8 → EReal)
    (hrow : ∀ (b j : Fin 8), row (ix3 0 b j) = e b j) (P0 P1 P2 P3 : Vec Ideal S1x8x1024 .f32)
    (h0 : Plane p 0 P0) (h1 : Plane p 1 P1) (h2 : Plane p 2 P2) (h3 : Plane p 3 P3)
    (ty : Vec Ideal S8x1024 .f32)
    (hty : ∀ (b : Fin 8) (l : Fin 1024), ty (ix2 b l) = if l.val = 0 then 0 else p.tr (p.tg b (prev l)) (p.tg b l))
    (x : FVec Ideal S8x1024 .f32) (a : Fin 8 → Fin 1024 → EReal) (hx : ∀ b l, x (ix2 b l) = a b l)
    (b : Fin 8) (l : Fin 1024) :
    k0_pay7 (F := Ideal) v31 x (k0_pay4 row) (k0_pay5 row P0 P1 P2 P3) (k0_pay6 row P0 P1) P2 P3 ty (ix2 b l)
      = numStep p b (e b) (a b) l := by
  pointwise [k0_pay7, k0_pay6, k0_pay5, k0_pay4, k0_pay3, k0_pay2]
  rw [hv b l]
  simp only [hx, hrow, hty, h0 b l, h1 b l, h2 b l, h3 b l, lane_zero]
  have hE : _ = e b (enter (p.tg b l)) := pick4 (p.tg b l) (fun k => e b (enter k))
  have hS : _ = e b (stay (p.tg b l)) := pick4 (p.tg b l) (fun k => e b (stay k))
  have hR : ((if l.val = 0 then neg else a b (prev l)) + if l.val = 0 then 0 else p.tr (p.tg b (prev l)) (p.tg b l))
      = if l.val = 0 then neg else a b (prev l) + p.tr (p.tg b (prev l)) (p.tg b l) := by
    split
    · exact add_zero _
    · rfl
  erw [hE, hS, hR]
  rfl

/-- One trip of the vector over the states. -/
theorem trip_den (v30 : FVec Ideal S4x4 .f32) (ht : ∀ i j, v30 (ix2 j i) = p.tr i j) (row : Vec Ideal S1x8x8 .f32)
    (e : Fin 8 → Fin 8 → EReal) (hrow : ∀ (b j : Fin 8), row (ix3 0 b j) = e b j)
    (x : FVec Ideal S8x4 .f32) (α : Fin 8 → Fin 4 → EReal) (hx : ∀ b j, x (ix2 b j) = α b j) (b : Fin 8) (j : Fin 4) :
    k0_pay29 (F := Ideal) v30 x (k0_pay3 row) (k0_pay4 row) (k0_pay8 v30 x) (k0_pay9 v30 x) (k0_pay10 v30 x) (ix2 b j)
      = denStep p (e b) (α b) j := by
  fin_cases j <;>
  · pointwise [k0_pay29, k0_pay10, k0_pay9, k0_pay8, k0_pay4, k0_pay3, k0_pay2]
    simp only [hx, hrow, ht]
    rfl

end Cert.KernelIdeal.Val
-- ==== Proof.KerEnds.lean ====
module

public import proofs.«01_k».proof.Proof.KerTrip

/-!
# What the kernel computes around its loop, at an index

Before the loop: the planes of the target masks (`plane0` to `plane3`), the table of the transition
scores between neighbouring targets (`pairs`), and the two vectors at time zero (`den_start`,
`num_start`).  After the loop: the mean of the differences (`finish`).
-/

@[expose] public section

set_option maxRecDepth 16384

noncomputable section

namespace Cert.KernelIdeal.Val

open Idealize.ShloMosaic Cert.KernelIdeal Cert.KernelIdeal.Gen Cert.Spec

variable (p : Crf)

/-- The target words of the problem. -/
def Words (x4 : Vec Ideal S8x1024 .i32) : Prop :=
  ∀ (b : Fin 8) (l : Fin 1024), x4 (ix2 b l) = BitVec.ofNat 32 (p.tg b l).val

/-- The mask of a literal state. -/
theorem mask0 (t : Fin 4) : FloatOps.sitofp (F := Ideal) .f32 (BitVec.setWidth 32
    (IntOp.cmpi .eq (BitVec.ofNat 32 t.val) 0#32)) = if t = 0 then (1 : EReal) else 0 := mask_eq t 0
theorem mask1 (t : Fin 4) : FloatOps.sitofp (F := Ideal) .f32 (BitVec.setWidth 32
    (IntOp.cmpi .eq (BitVec.ofNat 32 t.val) 1#32)) = if t = 1 then (1 : EReal) else 0 := mask_eq t 1
theorem mask2 (t : Fin 4) : FloatOps.sitofp (F := Ideal) .f32 (BitVec.setWidth 32
    (IntOp.cmpi .eq (BitVec.ofNat 32 t.val) 2#32)) = if t = 2 then (1 : EReal) else 0 := mask_eq t 2
theorem mask3 (t : Fin 4) : FloatOps.sitofp (F := Ideal) .f32 (BitVec.setWidth 32
    (IntOp.cmpi .eq (BitVec.ofNat 32 t.val) 3#32)) = if t = 3 then (1 : EReal) else 0 := mask_eq t 3

variable (x4 : Vec Ideal S8x1024 .i32) (hw : Words p x4)

include hw

theorem plane0 : Plane p 0 (k0_pay11 (F := Ideal) x4) := fun b l => by
  pointwise [k0_pay11]; rw [hw b l]; exact mask0 _

theorem plane1 : Plane p 1 (k0_pay12 (F := Ideal) x4) := fun b l => by
  pointwise [k0_pay12]; rw [hw b l]; exact mask1 _

theorem plane2 : Plane p 2 (k0_pay13 (F := Ideal) x4) := fun b l => by
  pointwise [k0_pay13]; rw [hw b l]; exact mask2 _

theorem plane3 : Plane p 3 (k0_pay14 (F := Ideal) x4) := fun b l => by
  pointwise [k0_pay14]; rw [hw b l]; exact mask3 _

/-- The targets moved one position up. -/
theorem rolled (b : Fin 8) (l : Fin 1024) :
    k0_pay16 (F := Ideal) x4 (ix2 b l) = BitVec.ofNat 32 (p.tg b (prev l)).val := by
  pointwise [k0_pay16]; exact hw b (prev l)

omit hw

/-- A sum of the sixteen transition scores, each multiplied by its two masks, is the score of the pair. -/
theorem pick16 (s t : Fin 4) (f : Fin 4 → Fin 4 → EReal) (m : Fin 4 → Fin 4 → EReal)
    (hm : ∀ t k, m t k = if t = k then 1 else 0) :
    0 + m s 0 * m t 0 * f 0 0 + m s 0 * m t 1 * f 0 1 + m s 0 * m t 2 * f 0 2 + m s 0 * m t 3 * f 0 3
      + m s 1 * m t 0 * f 1 0 + m s 1 * m t 1 * f 1 1 + m s 1 * m t 2 * f 1 2 + m s 1 * m t 3 * f 1 3
      + m s 2 * m t 0 * f 2 0 + m s 2 * m t 1 * f 2 1 + m s 2 * m t 2 * f 2 2 + m s 2 * m t 3 * f 2 3
      + m s 3 * m t 0 * f 3 0 + m s 3 * m t 1 * f 3 1 + m s 3 * m t 2 * f 3 2 + m s 3 * m t 3 * f 3 3 = f s t := by
  simp only [hm]
  fin_cases s <;> fin_cases t <;> simp

variable (P0 P1 P2 P3 : Vec Ideal S1x8x1024 .f32)
    (h0 : Plane p 0 P0) (h1 : Plane p 1 P1) (h2 : Plane p 2 P2) (h3 : Plane p 3 P3)

include h0 h1 h2 h3

/-- The table of the transition scores between neighbouring targets; zero at the first position. -/
theorem pairs (v31 : IVec S8x1024 32) (hv : Lanes v31) (v30 : FVec Ideal S4x4 .f32)
    (ht : ∀ i j, v30 (ix2 j i) = p.tr i j) (r : IVec S8x1024 32)
    (hr : ∀ b l, r (ix2 b l) = BitVec.ofNat 32 (p.tg b (prev l)).val) (b : Fin 8) (l : Fin 1024) :
    k0_pay24 (F := Ideal) v31 (k0_pay23 v30 r (k0_pay20 r)
      (k0_pay21 v30 r (k0_pay18 r) (k0_pay19 v30 r k0_pay17 P0 P1 P2 P3 P0) P1 P2 P3 P0 P1)
      (k0_pay22 P2) P3 P0 P1 P2 P3) (ix2 b l)
      = if l.val = 0 then 0 else p.tr (p.tg b (prev l)) (p.tg b l) := by
  pointwise [k0_pay24, k0_pay23, k0_pay22, k0_pay21, k0_pay20, k0_pay19, k0_pay18, k0_pay17]
  simp only [hv b l, hr b l, ht, h0 b l, h1 b l, h2 b l, h3 b l, lane_zero, mask0, mask1, mask2, mask3]
  congr 1
  have h := pick16 (p.tg b (prev l)) (p.tg b l) p.tr (fun t k => if t = k then 1 else 0) (fun _ _ => rfl)
  rw [zero_add] at h
  exact h

omit h0 h1 h2 h3

/-- The vector over the states at time zero. -/
theorem den_start (row : Vec Ideal S1x8x8 .f32) (hrow : ∀ b j, row (ix3 0 b j) = p.em b 0 j)
    (x2 : Vec Ideal S1x4 .f32) (hb : ∀ j, x2 (ix2 0 j) = p.bos j) (b : Fin 8) (j : Fin 4) :
    k0_pay26 (F := Ideal) row x2 (ix2 b j) = den p 0 b j := by
  pointwise [k0_pay26]
  simp only [hrow, hb]
  rfl

include h0 h1 h2 h3

/-- The vector over the target positions at time zero. -/
theorem num_start (v31 : IVec S8x1024 32) (hv : Lanes v31) (row : Vec Ideal S1x8x8 .f32)
    (hrow : ∀ b j, row (ix3 0 b j) = p.em b 0 j) (x2 : Vec Ideal S1x4 .f32) (hb : ∀ j, x2 (ix2 0 j) = p.bos j)
    (b : Fin 8) (l : Fin 1024) :
    k0_pay28 (F := Ideal) v31 (k0_pay26 row x2) (k0_pay27 row x2 P0 P1 P2) P3 (ix2 b l) = num p 0 b l := by
  pointwise [k0_pay28, k0_pay27, k0_pay26]
  simp only [hv b l, hrow, hb, h0 b 0, h1 b 0, h2 b 0, h3 b 0, lane_zero]
  have h : _ = p.bos (p.tg b 0) + p.em b 0 (enter (p.tg b 0)) :=
    pick4 (p.tg b 0) (fun k => p.bos k + p.em b 0 (enter k))
  unfold num
  congr 1

/-- The mean of the differences. -/
theorem finish (x3 : Vec Ideal S1x4 .f32) (he : ∀ j, x3 (ix2 0 j) = p.eos j)
    (D : Fin 8 → Fin 4 → EReal) (A : Fin 8 → Fin 1024 → EReal)
    (a : FVec Ideal S8x1024 .f32) (ha : ∀ b l, a (ix2 b l) = A b l)
    (α : FVec Ideal S8x4 .f32) (hα : ∀ b j, α (ix2 b j) = D b j) :
    k0_pay1 (F := Ideal) (k0_pay25 x3) a (k0_pay30 (k0_pay25 x3) α) (k0_pay31 (k0_pay25 x3) P0 P1)
      (k0_pay32 P2) P3 (ix2 0 0) = lossOf p D A := by
  pointwise [k0_pay1, k0_pay25, k0_pay30, k0_pay31, k0_pay32]
  simp only [ha, hα, he]
  unfold lossOf
  congr 1
  refine Finset.sum_congr rfl fun b _ => ?_
  rw [h0 b 1023, h1 b 1023, h2 b 1023, h3 b 1023]
  have h : _ = p.eos (p.tg b 1023) := pick4 (p.tg b 1023) p.eos
  erw [h]
  exact Finset.sum_const _ |>.trans (by simp [lse])

end Cert.KernelIdeal.Val
-- ==== Proof.KerValue.lean ====
module

public import proofs.«01_k».proof.Proof.KerEnds
public import proofs.«01_k».proof.Proof.Gen.KernelIdeal.Frame
public import Idealize.ShloMosaic.Lib.Pipeline.ReadBack

/-!
# What the kernel's region stores, as a function of its blocks

The generated run of the region names the value of the one store it makes.  Here that value is read:
the loads of the input blocks are the blocks; the loads of the first scratch are the planes of the target
masks, that of the second the table of transition scores; the loop's state after `k` trips is the pair
of forward vectors of `Spec`; so the stored number is the loss.
-/

@[expose] public section

set_option maxRecDepth 16384

noncomputable section

namespace Cert.KernelIdeal.Val

open Idealize.ShloMosaic Cert.KernelIdeal Cert.KernelIdeal.Gen Cert.Spec

/-- A load of a block held whole reads the block. -/
theorem load_block {s : Shape} {e : EltTy} {m : Memref sig .tc .vmem s e} (h : m.IsWhole) (X : s.Idx → Elt Ideal e)
    (r : Rect s) : View.readAt (Elt Ideal) m.view r.toLoadRect (h.unread X) = View.ld X r := by
  rw [View.readAt_eq_ld, h.read_unread]

/-- A load of the whole block. -/
theorem load_all {s : Shape} {e : EltTy} {m : Memref sig .tc .vmem s e} (h : m.IsWhole) (X : s.Idx → Elt Ideal e)
    {off : Fin s.rank → ℕ} (inb : ∀ a, off a + s.size a ≤ s.size a) (h0 : ∀ a, off a = 0) :
    View.readAt (Elt Ideal) m.view (Rect.unit off s.size inb).toLoadRect (h.unread X) = X := by
  obtain rfl : off = fun _ => 0 := funext h0
  rw [load_block]
  exact View.ld_unit_zero rfl inb X

variable (c : Dev nD)
    (arg0 : Memref sig .tc .vmem S2048x8x8 .f32) (harg0 : arg0.IsWhole)
    (arg1 : Memref sig .tc .vmem S4x4 .f32) (harg1 : arg1.IsWhole)
    (arg2 : Memref sig .tc .vmem S1x4 .f32) (harg2 : arg2.IsWhole)
    (arg3 : Memref sig .tc .vmem S1x4 .f32) (harg3 : arg3.IsWhole)
    (arg4 : Memref sig .tc .vmem S8x1024 .i32) (harg4 : arg4.IsWhole)
    (arg5 : Memref sig .tc .vmem S1x1 .f32) (harg5 : arg5.IsWhole)
    (arg6 : Memref sig .tc .vmem S4x8x1024 .f32) (harg6 : arg6.IsWhole)
    (arg7 : Memref sig .tc .vmem S8x1024 .f32) (harg7 : arg7.IsWhole)
    (x0 : Vec Ideal S2048x8x8 .f32) (x1 : Vec Ideal S4x4 .f32) (x2 x3 : Vec Ideal S1x4 .f32)
    (x4 : Vec Ideal S8x1024 .i32)

theorem load_targets : View.readAt (Elt Ideal) arg4.view
    (Rect.unit (s := S8x1024) ![0, 0] S8x1024.size inb_S8x1024_S8x1024_0_0).toLoadRect (harg4.unread x4) = x4 :=
  load_all harg4 x4 _ (by decide)

/-- Plane 0 of the masks, as any load reads it after the stores. -/
theorem mask_plane0 : arg6.view.readCov (kernelRun0_A.sl.HS0_4 c arg4 harg4 x4)
    (Rect.unit (s := S4x8x1024) ![0, 0, 0] S1x8x1024.size inb_S4x8x1024_S1x8x1024_0_0_0).toLoadRect = k0_pay11 x4 := by
  unfold kernelRun0_A.sl.HS0_4
  rw [load_targets]
  rw [View.readCov_skip _ _ _ _ _ (by decide)]
  rw [View.readCov_skip _ _ _ _ _ (by decide)]
  rw [View.readCov_skip _ _ _ _ _ (by decide)]
  exact View.readCov_cons_toLoadRect _ _ _ _

/-- Plane 1 of the masks, as any load reads it after the stores. -/
theorem mask_plane1 : arg6.view.readCov (kernelRun0_A.sl.HS0_4 c arg4 harg4 x4)
    (Rect.unit (s := S4x8x1024) ![1, 0, 0] S1x8x1024.size inb_S4x8x1024_S1x8x1024_1_0_0).toLoadRect = k0_pay12 x4 := by
  unfold kernelRun0_A.sl.HS0_4
  rw [load_targets]
  rw [View.readCov_skip _ _ _ _ _ (by decide)]
  rw [View.readCov_skip _ _ _ _ _ (by decide)]
  exact View.readCov_cons_toLoadRect _ _ _ _

/-- Plane 2 of the masks, as any load reads it after the stores. -/
theorem mask_plane2 : arg6.view.readCov (kernelRun0_A.sl.HS0_4 c arg4 harg4 x4)
    (Rect.unit (s := S4x8x1024) ![2, 0, 0] S1x8x1024.size inb_S4x8x1024_S1x8x1024_2_0_0).toLoadRect = k0_pay13 x4 := by
  unfold kernelRun0_A.sl.HS0_4
  rw [load_targets]
  rw [View.readCov_skip _ _ _ _ _ (by decide)]
  exact View.readCov_cons_toLoadRect _ _ _ _

/-- Plane 3 of the masks, as any load reads it after the stores. -/
theorem mask_plane3 : arg6.view.readCov (kernelRun0_A.sl.HS0_4 c arg4 harg4 x4)
    (Rect.unit (s := S4x8x1024) ![3, 0, 0] S1x8x1024.size inb_S4x8x1024_S1x8x1024_3_0_0).toLoadRect = k0_pay14 x4 := by
  unfold kernelRun0_A.sl.HS0_4
  rw [load_targets]
  exact View.readCov_cons_toLoadRect _ _ _ _

variable (p : Crf)

/-- The blocks hold the problem's input. -/
structure Blocks : Prop where
  em : ∀ (t : Fin 2048) (b j : Fin 8), x0 (ix3 t b j) = p.em b t.val j
  tr : ∀ i j : Fin 4, x1 (ix2 j i) = p.tr i j
  bos : ∀ j : Fin 4, x2 (ix2 0 j) = p.bos j
  eos : ∀ j : Fin 4, x3 (ix2 0 j) = p.eos j
  tg : Words p x4

/-- The row of scores that trip `k` loads. -/
theorem row_apply (hem : ∀ (t : Fin 2048) (b j : Fin 8), x0 (ix3 t b j) = p.em b t.val j)
    (k : Fin k0_t1_loop.trips) (b j : Fin 8) :
    View.readAt (Elt Ideal) arg0.view
      (Rect.unit (s := S2048x8x8) (k0_off1 k) S1x8x8.size (k0_off1_inb k)).toLoadRect (harg0.unread x0) (ix3 0 b j)
      = p.em b (k.val + 1) j := by
  rw [load_block]
  have hk : k.val + 1 < 2048 := lt_of_le_of_lt (Nat.succ_le_of_lt k.isLt) (by have := k0_t1_abs.2.1; omega)
  have h := hem ⟨k.val + 1, hk⟩ b j
  rw [← h]
  show x0 _ = x0 _
  congr 1
  funext a
  apply Fin.ext
  have e := congrFun (k0_off1_eq k) a
  show k0_off1 k a + _ = _
  rw [e]
  fin_cases a <;> simp <;> rfl

/-- The row of scores loaded before the loop. -/
theorem row_zero (hem : ∀ (t : Fin 2048) (b j : Fin 8), x0 (ix3 t b j) = p.em b t.val j) (b j : Fin 8) :
    View.readAt (Elt Ideal) arg0.view
      (Rect.unit (s := S2048x8x8) ![0, 0, 0] S1x8x8.size inb_S2048x8x8_S1x8x8_0_0_0).toLoadRect (harg0.unread x0)
      (ix3 0 b j) = p.em b 0 j := by
  rw [load_block]
  pointwise
  exact hem 0 b j

section Loop

variable (v30 : FVec Ideal S4x4 .f32) (v31 : IVec S8x1024 32) (v174 : FVec Ideal S1x4 .f32)
  (v177 : FVec Ideal S8x4 .f32) (v196 : FVec Ideal S8x1 .f32)
  (X6 : BufTy.Contents (Elt Ideal) arg6.view.ty) (X7 : BufTy.Contents (Elt Ideal) arg7.view.ty)
  (P0 P1 P2 P3 : Vec Ideal S1x8x1024 .f32) (ty : Vec Ideal S8x1024 .f32)

/-- The loop's state after `k` trips is the pair of forward vectors after `k` steps. -/
theorem state (hem : ∀ (t : Fin 2048) (b j : Fin 8), x0 (ix3 t b j) = p.em b t.val j)
    (hv : Lanes v31) (ht : ∀ i j, v30 (ix2 j i) = p.tr i j)
    (r0 : View.readAt (Elt Ideal) arg6.view (Rect.unit (s := S4x8x1024) ![0, 0, 0] S1x8x1024.size inb_S4x8x1024_S1x8x1024_0_0_0).toLoadRect X6 = P0)
    (r1 : View.readAt (Elt Ideal) arg6.view (Rect.unit (s := S4x8x1024) ![1, 0, 0] S1x8x1024.size inb_S4x8x1024_S1x8x1024_1_0_0).toLoadRect X6 = P1)
    (r2 : View.readAt (Elt Ideal) arg6.view (Rect.unit (s := S4x8x1024) ![2, 0, 0] S1x8x1024.size inb_S4x8x1024_S1x8x1024_2_0_0).toLoadRect X6 = P2)
    (r3 : View.readAt (Elt Ideal) arg6.view (Rect.unit (s := S4x8x1024) ![3, 0, 0] S1x8x1024.size inb_S4x8x1024_S1x8x1024_3_0_0).toLoadRect X6 = P3)
    (r7 : View.readAt (Elt Ideal) arg7.view (Rect.unit (s := S8x1024) ![0, 0] S8x1024.size inb_S8x1024_S8x1024_0_0).toLoadRect X7 = ty)
    (h0 : Plane p 0 P0) (h1 : Plane p 1 P1) (h2 : Plane p 2 P2) (h3 : Plane p 3 P3)
    (hty : ∀ (b : Fin 8) (l : Fin 1024), ty (ix2 b l) = if l.val = 0 then 0 else p.tr (p.tg b (prev l)) (p.tg b l))
    (i1 : FVec Ideal S8x1024 .f32) (i2 : FVec Ideal S8x4 .f32)
    (ia : ∀ b l, i1 (ix2 b l) = num p 0 b l) (iα : ∀ b j, i2 (ix2 b j) = den p 0 b j) :
    ∀ k : ℕ, k ≤ k0_t1_loop.trips →
      (∀ b l, (st_k0_t1 (F := Ideal) Variants.none c none arg0 harg0 arg1 harg1 arg2 harg2 arg3 harg3 arg4 harg4 arg5 harg5 arg6 harg6 arg7 harg7 v30 v31 v174 v177 v196 (harg0.unread x0) X6 X7 (i1, i2) k).1 (ix2 b l) = num p k b l) ∧
      (∀ b j, (st_k0_t1 (F := Ideal) Variants.none c none arg0 harg0 arg1 harg1 arg2 harg2 arg3 harg3 arg4 harg4 arg5 harg5 arg6 harg6 arg7 harg7 v30 v31 v174 v177 v196 (harg0.unread x0) X6 X7 (i1, i2) k).2 (ix2 b j) = den p k b j)
  | 0, _ => ⟨ia, iα⟩
  | k + 1, hk => by
    have ih := state hem hv ht r0 r1 r2 r3 r7 h0 h1 h2 h3 hty i1 i2 ia iα k (Nat.le_of_succ_le hk)
    have hs := st_k0_t1_succ (F := Ideal) Variants.none c none arg0 harg0 arg1 harg1 arg2 harg2 arg3 harg3 arg4 harg4 arg5 harg5 arg6 harg6 arg7 harg7 v30 v31 v174 v177 v196 (harg0.unread x0) X6 X7 (i1, i2) ⟨k, hk⟩
    rw [hs]
    unfold tripR_k0_t1 trip_k0_t1
    dsimp only
    unfold trip_k0_t1.sl.r_4 trip_k0_t1.sl.r trip_k0_t1.sl.r_1 trip_k0_t1.sl.r_2 trip_k0_t1.sl.r_3 trip_k0_t1.sl.r_5 trip_k0_t1.sl.r_6 trip_k0_t1.sl.r_7
    rw [r0, r1, r2, r3, r7]
    have hrow := row_apply arg0 harg0 x0 p hem ⟨k, hk⟩
    exact ⟨fun b l => trip_num p v31 hv _ (fun b j => p.em b (k + 1) j) hrow P0 P1 P2 P3 h0 h1 h2 h3 ty hty _ (num p k) ih.1 b l,
      fun b j => trip_den p v30 ht _ (fun b j => p.em b (k + 1) j) hrow _ (den p k) ih.2 b j⟩

end Loop

/-- The stored number is the loss. -/
theorem out_eq (h : Blocks x0 x1 x2 x3 x4 p) :
    out0_A_5 (F := Ideal) c arg0 harg0 arg1 harg1 arg2 harg2 arg3 harg3 arg4 harg4 arg5 harg5 arg6 harg6 arg7 harg7 x0 x1 x2 x3 x4 (ix2 0 0) = loss p := by
  unfold out0_A_5 kernelRun0_A
  dsimp only
  rw [View.read_writes_junk_eq_canon, View.canon_unit_zero (by decide)]
  have hv : Lanes kernelRun0_A.sl.v31 := fun b l => by
    unfold kernelRun0_A.sl.v31
    pointwise
  have v38 : kernelRun0_A.sl.v38 c arg4 harg4 arg6 x4 = k0_pay11 x4 := mask_plane0 c arg4 harg4 arg6 x4
  have v45 : kernelRun0_A.sl.v45 c arg4 harg4 arg6 x4 = k0_pay12 x4 := mask_plane1 c arg4 harg4 arg6 x4
  have v52 : kernelRun0_A.sl.v52 c arg4 harg4 arg6 x4 = k0_pay13 x4 := mask_plane2 c arg4 harg4 arg6 x4
  have v59 : kernelRun0_A.sl.v59 c arg4 harg4 arg6 x4 = k0_pay14 x4 := mask_plane3 c arg4 harg4 arg6 x4
  have v223 : kernelRun0_A.sl.v223 c arg4 harg4 arg6 x4 = k0_pay11 x4 := mask_plane0 c arg4 harg4 arg6 x4
  have v230 : kernelRun0_A.sl.v230 c arg4 harg4 arg6 x4 = k0_pay12 x4 := mask_plane1 c arg4 harg4 arg6 x4
  have v237 : kernelRun0_A.sl.v237 c arg4 harg4 arg6 x4 = k0_pay13 x4 := mask_plane2 c arg4 harg4 arg6 x4
  have v244 : kernelRun0_A.sl.v244 c arg4 harg4 arg6 x4 = k0_pay14 x4 := mask_plane3 c arg4 harg4 arg6 x4
  have g0 := plane0 p x4 h.tg
  have g1 := plane1 p x4 h.tg
  have g2 := plane2 p x4 h.tg
  have g3 := plane3 p x4 h.tg
  have r : kernelRun0_A.sl.r (F := Ideal) c arg1 harg1 x1 = k0_pay15 x1 := by
    unfold kernelRun0_A.sl.r; rw [load_all harg1 x1 _ (by decide)]
  have ht : ∀ i j, (k0_pay15 (F := Ideal) x1) (ix2 j i) = p.tr i j := fun i j => by
    pointwise [k0_pay15]; exact h.tr i j
  have r1 : kernelRun0_A.sl.r_1 (F := Ideal) c arg4 harg4 x4 = k0_pay16 x4 := by
    unfold kernelRun0_A.sl.r_1; rw [load_targets]
  have r8 : kernelRun0_A.sl.r_8 (F := Ideal) c arg3 harg3 x3 = k0_pay25 x3 := by
    unfold kernelRun0_A.sl.r_8; rw [load_all harg3 x3 _ (by decide)]
  have row := row_zero arg0 harg0 x0 p h.em
  have r9 : kernelRun0_A.sl.r_9 (F := Ideal) c arg0 harg0 arg2 harg2 x0 x2 = k0_pay26 (View.readAt (Elt Ideal) arg0.view
      (Rect.unit (s := S2048x8x8) ![0, 0, 0] S1x8x8.size inb_S2048x8x8_S1x8x8_0_0_0).toLoadRect (harg0.unread x0)) x2 := by
    unfold kernelRun0_A.sl.r_9; rw [load_all harg2 x2 _ (by decide)]
  have r10 : kernelRun0_A.sl.r_10 (F := Ideal) c arg0 harg0 arg2 harg2 arg4 harg4 arg6 x0 x2 x4
      = k0_pay27 (View.readAt (Elt Ideal) arg0.view
      (Rect.unit (s := S2048x8x8) ![0, 0, 0] S1x8x8.size inb_S2048x8x8_S1x8x8_0_0_0).toLoadRect (harg0.unread x0)) x2 (k0_pay11 x4) (k0_pay12 x4) (k0_pay13 x4) := by
    unfold kernelRun0_A.sl.r_10; rw [load_all harg2 x2 _ (by decide), v38, v45, v52]
  have r7 : kernelRun0_A.sl.r_7 (F := Ideal) c arg1 harg1 arg4 harg4 arg6 x1 x4 = k0_pay23 (k0_pay15 x1) (k0_pay16 x4) (k0_pay20 (k0_pay16 x4))
      (k0_pay21 (k0_pay15 x1) (k0_pay16 x4) (k0_pay18 (k0_pay16 x4)) (k0_pay19 (k0_pay15 x1) (k0_pay16 x4) k0_pay17 (k0_pay11 x4) (k0_pay12 x4) (k0_pay13 x4) (k0_pay14 x4) (k0_pay11 x4)) (k0_pay12 x4) (k0_pay13 x4) (k0_pay14 x4) (k0_pay11 x4) (k0_pay12 x4))
      (k0_pay22 (k0_pay13 x4)) (k0_pay14 x4) (k0_pay11 x4) (k0_pay12 x4) (k0_pay13 x4) (k0_pay14 x4) := by
    unfold kernelRun0_A.sl.r_7 kernelRun0_A.sl.r_6 kernelRun0_A.sl.r_5 kernelRun0_A.sl.r_4 kernelRun0_A.sl.r_3 kernelRun0_A.sl.r_2
    rw [r, r1, v38, v45, v52, v59]
  have hty := pairs p _ _ _ _ g0 g1 g2 g3 _ hv _ ht _ (rolled p x4 h.tg)
  have d0 := den_start p _ row x2 h.bos
  have n0 := num_start p _ _ _ _ g0 g1 g2 g3 _ hv _ row x2 h.bos
  rw [← r7] at hty
  have st := state c arg0 harg0 arg1 harg1 arg2 harg2 arg3 harg3 arg4 harg4 arg5 harg5 arg6 harg6 arg7 harg7 x0 p (k0_pay15 x1) kernelRun0_A.sl.v31 (k0_pay25 x3)
    (k0_pay26 (View.readAt (Elt Ideal) arg0.view (Rect.unit (s := S2048x8x8) ![0, 0, 0] S1x8x8.size inb_S2048x8x8_S1x8x8_0_0_0).toLoadRect (harg0.unread x0)) x2)
    (k0_pay27 (View.readAt (Elt Ideal) arg0.view (Rect.unit (s := S2048x8x8) ![0, 0, 0] S1x8x8.size inb_S2048x8x8_S1x8x8_0_0_0).toLoadRect (harg0.unread x0)) x2 (k0_pay11 x4) (k0_pay12 x4) (k0_pay13 x4))
    _ _ _ _ _ _ _ h.em hv ht
    (mask_plane0 c arg4 harg4 arg6 x4) (mask_plane1 c arg4 harg4 arg6 x4) (mask_plane2 c arg4 harg4 arg6 x4)
    (mask_plane3 c arg4 harg4 arg6 x4)
    (View.readCov_unit_zero arg7.view (by decide) inb_S8x1024_S8x1024_0_0 (k0_pay24 kernelRun0_A.sl.v31 (kernelRun0_A.sl.r_7 c arg1 harg1 arg4 harg4 arg6 x1 x4)))
    g0 g1 g2 g3 hty _ _ n0 d0 2047 (by decide)
  unfold kernelRun0_A.sl.r_11 kernelRun0_A.sl.r_12 kernelRun0_A.sl.r_13 kernelRun0_A.sl.r_14 kernelRun0_A.sl.HS1_1
  rw [r, r8, r10, r9, v59, v223, v230, v237, v244]
  exact finish p _ _ _ _ g0 g1 g2 g3 x3 h.eos (den p 2047) (num p 2047) _ st.1 _ st.2

end Cert.KernelIdeal.Val
-- ==== Proof.Problem.lean ====
module

public import proofs.«01_k».proof.Proof.Spec
public import proofs.«01_k».proof.Proof.Gen.Pre_labels
public import Idealize.ShloMosaic.Lib.ReduceAll

/-!
# The problem of five argument arrays

`ofArrays` reads the argument arrays as a `Crf`.  Under the precondition every target word is the
number of its target state (`target_word`).
-/

@[expose] public section

set_option maxRecDepth 16384

noncomputable section

namespace Cert.Spec

open Idealize.ShloMosaic

/-- The input in the five argument arrays; only the two low bits of a target word are read. -/
def ofArrays (x : (⟨3, ![8, 2048, 8]⟩ : Shape).Idx → EReal) (T : (⟨2, ![4, 4]⟩ : Shape).Idx → EReal)
    (B E : (⟨1, ![4]⟩ : Shape).Idx → EReal) (Y : (⟨2, ![8, 1024]⟩ : Shape).Idx → BitVec 32) : Crf where
  em b t j := if h : t < 2048 then x (ix3 b ⟨t, h⟩ j) else 0
  tr i j := T (ix2 i j)
  bos j := B (ix1 j)
  eos j := E (ix1 j)
  tg b l := ⟨(Y (ix2 b l)).toNat % 4, Nat.mod_lt _ (by decide)⟩

/-- A word that is neither negative nor above 3 is one of 0 to 3. -/
theorem word_lt_four (w : BitVec 32) (h0 : IntOp.cmpi .sge w 0#32 = 1#1) (h4 : IntOp.cmpi .slt w 4#32 = 1#1) :
    w.toNat < 4 := by
  have a : BitVec.sle 0#32 w = true := by
    have h : BitVec.ofBool (BitVec.sle 0#32 w) = 1#1 := h0
    revert h; cases BitVec.sle 0#32 w <;> decide
  have b : BitVec.slt w 4#32 = true := by
    have h : BitVec.ofBool (BitVec.slt w 4#32) = 1#1 := h4
    revert h; cases BitVec.slt w 4#32 <;> decide
  rw [BitVec.sle_iff_toInt_le, BitVec.toInt_eq_toNat_cond, BitVec.toInt_eq_toNat_cond] at a
  rw [BitVec.slt_iff_toInt_lt, BitVec.toInt_eq_toNat_cond, BitVec.toInt_eq_toNat_cond] at b
  have hw := w.isLt
  have z : (0#32).toNat = 0 := rfl
  have f : (4#32).toNat = 4 := rfl
  rw [z] at a
  rw [f] at b
  split_ifs at a b <;> omega

/-- What the precondition says of one target word. -/
theorem labels_lt (x : (⟨3, ![8, 2048, 8]⟩ : Shape).Idx → EReal) (T : (⟨2, ![4, 4]⟩ : Shape).Idx → EReal)
    (B E : (⟨1, ![4]⟩ : Shape).Idx → EReal) (Y : (⟨2, ![8, 1024]⟩ : Shape).Idx → BitVec 32)
    (h : Cert.Pre_labels.fn (F := Ideal) x T B E Y = fun _ => 1#1) (b : Fin 8) (l : Fin 1024) :
    (Y (ix2 b l)).toNat < 4 := by
  have e := congrFun h (fun a => a.elim0)
  have e' : IntOp.andi _ _ = 1#1 := e
  obtain ⟨e1, e2⟩ := IntOp.andi_eq_one.mp e'
  exact word_lt_four _ (Host.reduce_andi_all _ _ _ _ _ e1 (ix2 b l)) (Host.reduce_andi_all _ _ _ _ _ e2 (ix2 b l))

/-- Under the precondition a target word is the number of its target state. -/
theorem target_word (x : (⟨3, ![8, 2048, 8]⟩ : Shape).Idx → EReal) (T : (⟨2, ![4, 4]⟩ : Shape).Idx → EReal)
    (B E : (⟨1, ![4]⟩ : Shape).Idx → EReal) (Y : (⟨2, ![8, 1024]⟩ : Shape).Idx → BitVec 32)
    (h : Cert.Pre_labels.fn (F := Ideal) x T B E Y = fun _ => 1#1) (b : Fin 8) (l : Fin 1024) :
    Y (ix2 b l) = BitVec.ofNat 32 ((ofArrays x T B E Y).tg b l).val := by
  have hl := labels_lt x T B E Y h b l
  have e : ((ofArrays x T B E Y).tg b l).val = (Y (ix2 b l)).toNat := Nat.mod_eq_of_lt hl
  rw [e, BitVec.ofNat_toNat, BitVec.setWidth_eq]

end Cert.Spec
-- ==== Proof.KerRun.lean ====
module

public import proofs.«01_k».proof.Proof.KerValue
public import proofs.«01_k».proof.Proof.Problem
public import Idealize.ShloMosaic.Lib.Pipeline.ValueKit.Geometry
public import Idealize.ShloMosaic.Lib.StableHlo.ReadAt

/-!
# The kernel's run ends with the loss

The region has one point and its blocks are whole arrays, so the blocks are the host's transposes and
reshapes of the arguments and the stored number is the array after the region.  The one operation after
the region reshapes that number.
-/

@[expose] public section

set_option maxRecDepth 16384

noncomputable section

namespace Cert.KernelIdeal.Val

open Idealize.ShloMosaic Idealize.ShloMosaic.TcCoe Cert.KernelIdeal Cert.KernelIdeal.Gen Cert.Spec
open Idealize.SL Idealize.SL.Sem

variable (m : (ℓ : Loc nD τ sig) → Buf (Elt Ideal) ℓ) (ρ : Dev nD → PrngReg)

/-- The problem in the argument arrays of core `c`. -/
def crf (c : Dev nD) : Crf :=
  ofArrays (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

/-- The scores by time, batch entry and column. -/
theorem host_em (c : Dev nD) (t : Fin 2048) (b j : Fin 8) :
    V0 m c (Proc.devRef .tc main_v0) (ix3 t b j) = m ((c.tc : Thread nD τ).loc main_arg0) (ix3 b t j) := by
  after_reads_at

/-- The transition scores, target state first. -/
theorem host_tr (c : Dev nD) (i j : Fin 4) :
    V0 m c (Proc.devRef .tc main_v1) (ix2 j i) = m ((c.tc : Thread nD τ).loc main_arg1) (ix2 i j) := by
  after_reads_at

/-- The start scores. -/
theorem host_bos (c : Dev nD) (j : Fin 4) :
    V0 m c (Proc.devRef .tc main_v2) (ix2 0 j) = m ((c.tc : Thread nD τ).loc main_arg2) (ix1 j) := by
  after_reads_at

/-- The end scores. -/
theorem host_eos (c : Dev nD) (j : Fin 4) :
    V0 m c (Proc.devRef .tc main_v3) (ix2 0 j) = m ((c.tc : Thread nD τ).loc main_arg3) (ix1 j) := by
  after_reads_at

/-- The blocks of the one point are the host's arrays. -/
theorem blk0 (c : Dev nD) (t : Fin cfg0.N) : iblk m c 0 t = V0 m c (Proc.devRef .tc main_v0) := by
  have e : ∀ t : Fin cfg0.N, win0_0.index t = ![0, 0, 0] := (by decide +kernel : ∀ t : Fin grid0.N, _)
  funext y
  blk_simp [iblk]
  congr 1
  blk_ext [e]

theorem blk1 (c : Dev nD) (t : Fin cfg0.N) : iblk m c 1 t = V0 m c (Proc.devRef .tc main_v1) := by
  have e : ∀ t : Fin cfg0.N, win0_1.index t = ![0, 0] := (by decide +kernel : ∀ t : Fin grid0.N, _)
  funext y
  blk_simp [iblk]
  congr 1
  blk_ext [e]

theorem blk2 (c : Dev nD) (t : Fin cfg0.N) : iblk m c 2 t = V0 m c (Proc.devRef .tc main_v2) := by
  have e : ∀ t : Fin cfg0.N, win0_2.index t = ![0, 0] := (by decide +kernel : ∀ t : Fin grid0.N, _)
  funext y
  blk_simp [iblk]
  congr 1
  blk_ext [e]

theorem blk3 (c : Dev nD) (t : Fin cfg0.N) : iblk m c 3 t = V0 m c (Proc.devRef .tc main_v3) := by
  have e : ∀ t : Fin cfg0.N, win0_3.index t = ![0, 0] := (by decide +kernel : ∀ t : Fin grid0.N, _)
  funext y
  blk_simp [iblk]
  congr 1
  blk_ext [e]

theorem blk4 (c : Dev nD) (t : Fin cfg0.N) : iblk m c 4 t = m ((c.tc : Thread nD τ).loc main_arg4) := by
  have e : ∀ t : Fin cfg0.N, win0_4.index t = ![0, 0] := (by decide +kernel : ∀ t : Fin grid0.N, _)
  refine Eq.trans ?_ (V_main_arg4 m c)
  funext y
  blk_simp [iblk]
  congr 1
  blk_ext [e]

/-- The blocks hold the problem in the arguments, the target words being those of its target states. -/
theorem blocks (c : Dev nD) (t : Fin cfg0.N) (hY : Words (crf m c) (m ((c.tc : Thread nD τ).loc main_arg4))) :
    Blocks (iblk m c 0 t) (iblk m c 1 t) (iblk m c 2 t) (iblk m c 3 t) (iblk m c 4 t) (crf m c) where
  em s b j := by
    rw [blk0]
    refine (host_em m c s b j).trans ?_
    unfold crf ofArrays
    dsimp only
    rw [dif_pos s.isLt]
  tr i j := by rw [blk1]; exact host_tr m c i j
  bos j := by rw [blk2]; exact host_bos m c j
  eos j := by rw [blk3]; exact host_eos m c j
  tg := by rw [blk4]; exact hY

/-- The region stores the loss. -/
theorem stored (c : Dev nD) (t : Fin cfg0.N) (hY : Words (crf m c) (m ((c.tc : Thread nD τ).loc main_arg4)))
    (j : S1x1.Idx) : outsAt0 m c t j = loss (crf m c) := by
  have h0 : j = ix2 0 0 := by
    funext a
    apply Fin.ext
    fin_cases a
    · exact Nat.lt_one_iff.mp (j 0).isLt
    · exact Nat.lt_one_iff.mp (j 1).isLt
  rw [h0]
  unfold outsAt0
  exact out_eq c _ _ _ _ _ _ _ _ _ _ _ _ _ _ _ _ _ _ _ _ _ (crf m c) (blocks m c t hY)

/-- The array of the region holds the loss. -/
theorem final (c : Dev nD) (hY : Words (crf m c) (m ((c.tc : Thread nD τ).loc main_arg4))) :
    (dats m 0 c).arrAt 5 cfg0.N = fun _ => loss (crf m c) := by
  refine (dats m 0 c).arrAt_eq_of_after_last 5 t0_0 (by decide +kernel) _ fun j => ?_
  blk_simp
  rw [after0_5]
  exact stored m c t0_0 hY _

/-- The result of the operation after the region. -/
theorem tail_eq (c : Dev nD) (hY : Words (crf m c) (m ((c.tc : Thread nD τ).loc main_arg4))) :
    Pipeline.afterTail₀ cfgs (dats m) 0 (V0 m) [hostOps1] c main_v5 = fun _ => loss (crf m c) := by
  unfold Pipeline.afterTail₀
  have e := (Pipeline.withArrays_arr spec0 launch0.win.arr_inj c (V0 m c) (fun w => (dats m 0 c).arrAt w cfg0.N) 5).trans (final m c hY)
  funext j
  after_reads_at
  exact congrFun e _

/-- The kernel's run ends with the loss and the arguments unchanged. -/
theorem run (hY : ∀ c, Words (crf m c) (m ((c.tc : Thread nD τ).loc main_arg4))) :
    θ_run defs (onTc (τ := τ) (main (F := Ideal))) ⟨m, fun _ => 0, ρ⟩ fun r => ∀ c : Dev nD,
      r.2.mem ((c.tc : Thread nD τ).loc main_v5) = (fun _ => loss (crf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1.rest_eq c main_v5 (by decide)).trans (tail_eq m c (hY c)), h.2 c⟩)
    (θ_run_and (run_main m ρ) (unchanged m ρ))

end Cert.KernelIdeal.Val
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1380

noncomputable section

/-! The reference's host operations as literal lists, its @main as a chain of these lists and the two loops, and each loop's body
as a chain of its own lists. `_sub`, `_fresh` and `_writes` say that a list touches tensor buffers only, allocates nothing, and
writes the buffers listed in `_W`. -/

namespace Cert.ReferenceIdeal.Run

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main in pieces -/

/-- 12 host operations of @main, in order. -/
abbrev hostOps0 : List (HloOp τ sig (Elt F)) :=
  [ StableHlo.unary main_arg0 main_v0 ((extractStridedSlice S8x2047x8 ![0, 1, 0] · slices_S8x2048x8_S8x2047x8_0_1_0) : (⟨S8x2048x8, .f32⟩ : BufTy).Contents (Elt F) → (⟨S8x2047x8, .f32⟩ : BufTy).Contents (Elt F)),
    StableHlo.unary main_v0 main_v1 ((transpose S2047x8x8 [1, 0, 2] · transposes_S8x2047x8_S2047x8x8_1_0_2) : (⟨S8x2047x8, .f32⟩ : BufTy).Contents (Elt F) → (⟨S2047x8x8, .f32⟩ : BufTy).Contents (Elt F)),
    StableHlo.unary main_arg2 main_v2 (broadcastInDim S1x4 ![1] bcast_S4_S1x4_1 : (⟨S4, .f32⟩ : BufTy).Contents (Elt F) → (⟨S1x4, .f32⟩ : BufTy).Contents (Elt F)),
    StableHlo.unary main_arg0 main_v3 ((extractStridedSlice S8x1x4 ![0, 0, 0] · slices_S8x2048x8_S8x1x4_0_0_0) : (⟨S8x2048x8, .f32⟩ : BufTy).Contents (Elt F) → (⟨S8x1x4, .f32⟩ : BufTy).Contents (Elt F)),
    StableHlo.reshape main_v3 main_v4 (rfl : (.f32 : EltTy) = .f32) shapeCasts_S8x1x4_S8x4,
    StableHlo.unary main_v2 main_v5 (broadcastInDim S8x4 ![0, 1] bcast_S1x4_S8x4_0_1 : (⟨S1x4, .f32⟩ : BufTy).Contents (Elt F) → (⟨S8x4, .f32⟩ : BufTy).Contents (Elt F)),
    StableHlo.binary main_v5 main_v4 main_v6 (addf : (⟨S8x4, .f32⟩ : BufTy).Contents (Elt F) → (⟨S8x4, .f32⟩ : BufTy).Contents (Elt F) → (⟨S8x4, .f32⟩ : BufTy).Contents (Elt F)),
    StableHlo.nullary main_c (constantI S_ 32 0#32),
    StableHlo.unary main_v1 main_v7_0 id,
    StableHlo.unary main_arg1 main_v7_1 id,
    StableHlo.unary main_c main_v7_2 id,
    StableHlo.unary main_v6 main_v7_3 id ]
/-- They touch tensor buffers only. -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub ..⟩
/-- 48 host operations of @main, in order. -/
abbrev hostOps0_1 : List (HloOp τ sig (Elt F)) :=
  ( StableHlo.unary main_arg3 main_v8 (broadcastInDim S1x4 ![1] bcast_S4_S1x4_1 : (⟨S4, .f32⟩ : BufTy).Contents (Elt F) → (⟨S1x4, .f32⟩ : BufTy).Contents (Elt F))
  :: StableHlo.unary main_v8 main_v9 (broadcastInDim S8x4 ![0, 1] bcast_S1x4_S8x4_0_1 : (⟨S1x4, .f32⟩ : BufTy).Contents (Elt F) → (⟨S8x4, .f32⟩ : BufTy).Contents (Elt F))
  :: StableHlo.binary main_v7_3 main_v9 main_v10 (addf : (⟨S8x4, .f32⟩ : BufTy).Contents (Elt F) → (⟨S8x4, .f32⟩ : BufTy).Contents (Elt F) → (⟨S8x4, .f32⟩ : BufTy).Contents (Elt F))
  :: StableHlo.nullary main_cst (constant S_ .f32 0xFF800000#32)
  :: StableHlo.binary main_v10 main_cst main_v11 ((fun x v => Host.reduce FloatOps.maximumf x v reducesTo_S8x4_S8_d1 h_S_) : (⟨S8x4, .f32⟩ : BufTy).Contents (Elt F) → (⟨S_, .f32⟩ : BufTy).Contents (Elt F) → (⟨S8, .f32⟩ : BufTy).Contents (Elt F))
  :: StableHlo.unary main_v11 main_v12 (broadcastInDim S8x1 ![0] bcast_S8_S8x1_0 : (⟨S8, .f32⟩ : BufTy).Contents (Elt F) → (⟨S8x1, .f32⟩ : BufTy).Contents (Elt F))
  :: StableHlo.reshape main_v12 main_v13 (rfl : (.f32 : EltTy) = .f32) shapeCasts_S8x1_S8
  :: StableHlo.unary main_v12 main_v14 (broadcastInDim S8x4 ![0, 1] bcast_S8x1_S8x4_0_1 : (⟨S8x1, .f32⟩ : BufTy).Contents (Elt F) → (⟨S8x4, .f32⟩ : BufTy).Contents (Elt F))
  :: StableHlo.binary main_v10 main_v14 main_v15 (subf : (⟨S8x4, .f32⟩ : BufTy).Contents (Elt F) → (⟨S8x4, .f32⟩ : BufTy).Contents (Elt F) → (⟨S8x4, .f32⟩ : BufTy).Contents (Elt F))
  :: StableHlo.unary main_v15 main_v16 (Host.exp : (⟨S8x4, .f32⟩ : BufTy).Contents (Elt F) → (⟨S8x4, .f32⟩ : BufTy).Contents (Elt F))
  :: StableHlo.nullary main_cst_0 (constant S_ .f32 0x00000000#32)
  :: StableHlo.binary main_v16 main_cst_0 main_v17 ((fun x v => Host.reduceAdd x v reducesTo_S8x4_S8_d1 h_S_) : (⟨S8x4, .f32⟩ : BufTy).Contents (Elt F) → (⟨S_, .f32⟩ : BufTy).Contents (Elt F) → (⟨S8, .f32⟩ : BufTy).Contents (Elt F))
  :: StableHlo.unary main_v17 main_v18 (Host.log : (⟨S8, .f32⟩ : BufTy).Contents (Elt F) → (⟨S8, .f32⟩ : BufTy).Contents (Elt F))
  :: StableHlo.binary main_v13 main_v18 main_v19 (addf : (⟨S8, .f32⟩ : BufTy).Contents (Elt F) → (⟨S8, .f32⟩ : BufTy).Contents (Elt F) → (⟨S8, .f32⟩ : BufTy).Contents (Elt F))
  :: StableHlo.unary main_arg4 main_v20 ((extractStridedSlice S8x1023 ![0, 0] · slices_S8x1024_S8x1023_0_0) : (⟨S8x1024, .i32⟩ : BufTy).Contents (Elt F) → (⟨S8x1023, .i32⟩ : BufTy).Contents (Elt F))
  :: StableHlo.unary main_arg4 main_v21 ((extractStridedSlice S8x1023 ![0, 1] · slices_S8x1024_S8x1023_0_1) : (⟨S8x1024, .i32⟩ : BufTy).Contents (Elt F) → (⟨S8x1023, .i32⟩ : BufTy).Contents (Elt F))
  :: StableHlo.nullary main_c_1 (constantI S_ 32 0#32)
  :: StableHlo.unary main_c_1 main_v22 (broadcastInDim S8x1023 ![] bcast_S_S8x1023 : (⟨S_, .i32⟩ : BufTy).Contents (Elt F) → (⟨S8x1023, .i32⟩ : BufTy).Contents (Elt F))
  :: StableHlo.binary main_v20 main_v22 main_v23 (cmpi .slt : (⟨S8x1023, .i32⟩ : BufTy).Contents (Elt F) → (⟨S8x1023, .i32⟩ : BufTy).Contents (Elt F) → (⟨S8x1023, .i1⟩ : BufTy).Contents (Elt F))
  :: StableHlo.nullary main_c_2 (constantI S_ 32 4#32)
  :: StableHlo.unary main_c_2 main_v24 (broadcastInDim S8x1023 ![] bcast_S_S8x1023 : (⟨S_, .i32⟩ : BufTy).Contents (Elt F) → (⟨S8x1023, .i32⟩ : BufTy).Contents (Elt F))
  :: StableHlo.binary main_v20 main_v24 main_v25 (addi : (⟨S8x1023, .i32⟩ : BufTy).Contents (Elt F) → (⟨S8x1023, .i32⟩ : BufTy).Contents (Elt F) → (⟨S8x1023, .i32⟩ : BufTy).Contents (Elt F))
  :: StableHlo.ternary main_v23 main_v25 main_v20 main_v26 (select : (⟨S8x1023, .i1⟩ : BufTy).Contents (Elt F) → (⟨S8x1023, .i32⟩ : BufTy).Contents (Elt F) → (⟨S8x1023, .i32⟩ : BufTy).Contents (Elt F) → (⟨S8x1023, .i32⟩ : BufTy).Contents (Elt F))
  :: StableHlo.nullary main_c_3 (constantI S_ 32 0#32)
  :: StableHlo.unary main_c_3 main_v27 (broadcastInDim S8x1023 ![] bcast_S_S8x1023 : (⟨S_, .i32⟩ : BufTy).Contents (Elt F) → (⟨S8x1023, .i32⟩ : BufTy).Contents (Elt F))
  :: StableHlo.binary main_v21 main_v27 main_v28 (cmpi .slt : (⟨S8x1023, .i32⟩ : BufTy).Contents (Elt F) → (⟨S8x1023, .i32⟩ : BufTy).Contents (Elt F) → (⟨S8x1023, .i1⟩ : BufTy).Contents (Elt F))
  :: StableHlo.nullary main_c_4 (constantI S_ 32 4#32)
  :: StableHlo.unary main_c_4 main_v29 (broadcastInDim S8x1023 ![] bcast_S_S8x1023 : (⟨S_, .i32⟩ : BufTy).Contents (Elt F) → (⟨S8x1023, .i32⟩ : BufTy).Contents (Elt F))
  :: StableHlo.binary main_v21 main_v29 main_v30 (addi : (⟨S8x1023, .i32⟩ : BufTy).Contents (Elt F) → (⟨S8x1023, .i32⟩ : BufTy).Contents (Elt F) → (⟨S8x1023, .i32⟩ : BufTy).Contents (Elt F))
  :: StableHlo.ternary main_v28 main_v30 main_v21 main_v31 (select : (⟨S8x1023, .i1⟩ : BufTy).Contents (Elt F) → (⟨S8x1023, .i32⟩ : BufTy).Contents (Elt F) → (⟨S8x1023, .i32⟩ : BufTy).Contents (Elt F) → (⟨S8x1023, .i32⟩ : BufTy).Contents (Elt F))
  :: StableHlo.unary main_v26 main_v32 (broadcastInDim S8x1023x1 ![0, 1] bcast_S8x1023_S8x1023x1_0_1 : (⟨S8x1023, .i32⟩ : BufTy).Contents (Elt F) → (⟨S8x1023x1, .i32⟩ : BufTy).Contents (Elt F))
  :: StableHlo.unary main_v31 main_v33 (broadcastInDim S8x1023x1 ![0, 1] bcast_S8x1023_S8x1023x1_0_1 : (⟨S8x1023, .i32⟩ : BufTy).Contents (Elt F) → (⟨S8x1023x1, .i32⟩ : BufTy).Contents (Elt F))
  :: StableHlo.binary main_v32 main_v33 main_v34 ((fun a b => concatenate S8x1023x2 2 [⟨S8x1023x1, a⟩, ⟨S8x1023x1, b⟩] concatenates_S8x1023x1_S8x1023x1_S8x1023x2_d2) : (⟨S8x1023x1, .i32⟩ : BufTy).Contents (Elt F) → (⟨S8x1023x1, .i32⟩ : BufTy).Contents (Elt F) → (⟨S8x1023x2, .i32⟩ : BufTy).Contents (Elt F))
  :: StableHlo.binary main_arg1 main_v34 main_v35 ((fun x i => Host.gather gather_S4x4_S8x1023x2_S8x1023_n_01_n_n_01_2_11 x i) : (⟨S4x4, .f32⟩ : BufTy).Contents (Elt F) → (⟨S8x1023x2, .i32⟩ : BufTy).Contents (Elt F) → (⟨S8x1023, .f32⟩ : BufTy).Contents (Elt F))
  :: StableHlo.unary main_arg4 main_v36 ((extractStridedSlice S8x1 ![0, 0] · slices_S8x1024_S8x1_0_0) : (⟨S8x1024, .i32⟩ : BufTy).Contents (Elt F) → (⟨S8x1, .i32⟩ : BufTy).Contents (Elt F))
  :: StableHlo.reshape main_v36 main_v37 (rfl : (.i32 : EltTy) = .i32) shapeCasts_S8x1_S8
  :: StableHlo.nullary main_c_5 (constantI S_ 32 0#32)
  :: StableHlo.unary main_c_5 main_v38 (broadcastInDim S8 ![] bcast_S_S8 : (⟨S_, .i32⟩ : BufTy).Contents (Elt F) → (⟨S8, .i32⟩ : BufTy).Contents (Elt F))
  :: StableHlo.binary main_v37 main_v38 main_v39 (cmpi .slt : (⟨S8, .i32⟩ : BufTy).Contents (Elt F) → (⟨S8, .i32⟩ : BufTy).Contents (Elt F) → (⟨S8, .i1⟩ : BufTy).Contents (Elt F))
  :: StableHlo.nullary main_c_6 (constantI S_ 32 4#32)
  :: StableHlo.unary main_c_6 main_v40 (broadcastInDim S8 ![] bcast_S_S8 : (⟨S_, .i32⟩ : BufTy).Contents (Elt F) → (⟨S8, .i32⟩ : BufTy).Contents (Elt F))
  :: StableHlo.binary main_v37 main_v40 main_v41 (addi : (⟨S8, .i32⟩ : BufTy).Contents (Elt F) → (⟨S8, .i32⟩ : BufTy).Contents (Elt F) → (⟨S8, .i32⟩ : BufTy).Contents (Elt F))
  :: StableHlo.ternary main_v39 main_v41 main_v37 main_v42 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.unary main_v42 main_v43 (broadcastInDim S8x1 ![0] bcast_S8_S8x1_0 : (⟨S8, .i32⟩ : BufTy).Contents (Elt F) → (⟨S8x1, .i32⟩ : BufTy).Contents (Elt F))
  :: StableHlo.binary main_arg2 main_v43 main_v44 ((fun x i => Host.gather gather_S4_S8x1_S8_n_0_n_n_0_1_1 x i) : (⟨S4, .f32⟩ : BufTy).Contents (Elt F) → (⟨S8x1, .i32⟩ : BufTy).Contents (Elt F) → (⟨S8, .f32⟩ : BufTy).Contents (Elt F))
  :: StableHlo.unary main_arg0 main_v45 ((extractStridedSlice S8x1x4 ![0, 0, 0] · slices_S8x2048x8_S8x1x4_0_0_0) : (⟨S8x2048x8, .f32⟩ : BufTy).Contents (Elt F) → (⟨S8x1x4, .f32⟩ : BufTy).Contents (Elt F))
  :: StableHlo.reshape main_v45 main_v46 (rfl : (.f32 : EltTy) = .f32) shapeCasts_S8x1x4_S8x4
  :: StableHlo.unary main_arg4 main_v47 ((extractStridedSlice S8x1 ![0, 0] · slices_S8x1024_S8x1_0_0) : (⟨S8x1024, .i32⟩ : BufTy).Contents (Elt F) → (⟨S8x1, .i32⟩ : BufTy).Contents (Elt F))
  :: [] )
/-- They touch tensor buffers only. -/
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.reshape_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub ..⟩
/-- 22 host operations of @take_along_axis (main_call1), in order. -/
abbrev hostOps0_2 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8x1, .i32⟩) (broadcastInDim S8x1 ![] bcast_S_S8x1),
    StableHlo.TRef.binary (.of main_v47 : StableHlo.TRef sig ⟨S8x1, .i32⟩) (.of main_call1_v0 : StableHlo.TRef sig ⟨S8x1, .i32⟩) (.of main_call1_v1 : StableHlo.TRef sig ⟨S8x1, .i1⟩) (cmpi .slt),
    StableHlo.TRef.nullary (.of main_call1_c_0 : StableHlo.TRef sig ⟨S_, .i32⟩) (constantI S_ 32 4#32),
    StableHlo.TRef.unary (.of main_call1_c_0 : StableHlo.TRef sig ⟨S_, .i32⟩) (.of main_call1_v2 : StableHlo.TRef sig ⟨S8x1, .i32⟩) (broadcastInDim S8x1 ![] bcast_S_S8x1),
    StableHlo.TRef.binary (.of main_v47 : StableHlo.TRef sig ⟨S8x1, .i32⟩) (.of main_call1_v2 : StableHlo.TRef sig ⟨S8x1, .i32⟩) (.of main_call1_v3 : StableHlo.TRef sig ⟨S8x1, .i32⟩) addi,
    StableHlo.TRef.ternary (.of main_call1_v1 : StableHlo.TRef sig ⟨S8x1, .i1⟩) (.of main_call1_v3 : StableHlo.TRef sig ⟨S8x1, .i32⟩) (.of main_v47 : StableHlo.TRef sig ⟨S8x1, .i32⟩) (.of main_call1_v4 : StableHlo.TRef sig ⟨S8x1, .i32⟩) select,
    StableHlo.TRef.reshape (.of main_call1_v4 : StableHlo.TRef sig ⟨S8x1, .i32⟩) (.of main_call1_v5 : StableHlo.TRef sig ⟨S8x1x1, .i32⟩) (rfl : (.i32 : EltTy) = .i32) shapeCasts_S8x1_S8x1x1,
    StableHlo.TRef.nullary (.of main_call1_c_1 : StableHlo.TRef sig ⟨S1, .i32⟩) (constantI S1 32 3#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8x1x1, .i32⟩) (broadcastInDim S8x1x1 ![] bcast_S_S8x1x1),
    StableHlo.TRef.binary (.of main_call1_v5 : StableHlo.TRef sig ⟨S8x1x1, .i32⟩) (.of main_call1_v6 : StableHlo.TRef sig ⟨S8x1x1, .i32⟩) (.of main_call1_v7 : StableHlo.TRef sig ⟨S8x1x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S8x1x1, .i32⟩) (broadcastInDim S8x1x1 ![0, 1, 2] bcast_S1x1x1_S8x1x1_0_1_2),
    StableHlo.TRef.binary (.of main_call1_v5 : StableHlo.TRef sig ⟨S8x1x1, .i32⟩) (.of main_call1_v9 : StableHlo.TRef sig ⟨S8x1x1, .i32⟩) (.of main_call1_v10 : StableHlo.TRef sig ⟨S8x1x1, .i1⟩) (cmpi .sle),
    StableHlo.TRef.binary (.of main_call1_v7 : StableHlo.TRef sig ⟨S8x1x1, .i1⟩) (.of main_call1_v10 : StableHlo.TRef sig ⟨S8x1x1, .i1⟩) (.of main_call1_v11 : StableHlo.TRef sig ⟨S8x1x1, .i1⟩) andi,
    StableHlo.TRef.nullary (.of main_call1_c_3 : StableHlo.TRef sig ⟨S_, .i1⟩) (constantI S_ 1 1#1),
    StableHlo.TRef.binary (.of main_call1_v11 : StableHlo.TRef sig ⟨S8x1x1, .i1⟩) (.of main_call1_c_3 : StableHlo.TRef sig ⟨S_, .i1⟩) (.of main_call1_v12 : StableHlo.TRef sig ⟨S8x1, .i1⟩) (fun x v => Host.reduce IntOp.andi x v reducesTo_S8x1x1_S8x1_d2 h_S_),
    StableHlo.TRef.binary (.of main_v46 : StableHlo.TRef sig ⟨S8x4, .f32⟩) (.of main_call1_v5 : StableHlo.TRef sig ⟨S8x1x1, .i32⟩) (.of main_call1_v13 : StableHlo.TRef sig ⟨S8x1, .f32⟩) (fun x i => Host.gather gather_S8x4_S8x1x1_S8x1_n_1_0_0_1_2_11 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S8x1, .f32⟩) (broadcastInDim S8x1 ![] bcast_S_S8x1),
    StableHlo.TRef.ternary (.of main_call1_v12 : StableHlo.TRef sig ⟨S8x1, .i1⟩) (.of main_call1_v13 : StableHlo.TRef sig ⟨S8x1, .f32⟩) (.of main_call1_v14 : StableHlo.TRef sig ⟨S8x1, .f32⟩) (.of main_v48 : StableHlo.TRef sig ⟨S8x1, .f32⟩) select ]
/-- They touch tensor buffers only. -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 13 host operations of @main, in order. -/
abbrev hostOps0_3 : List (HloOp τ sig (Elt F)) :=
  [ StableHlo.reshape main_v48 main_v49 (rfl : (.f32 : EltTy) = .f32) shapeCasts_S8x1_S8,
    StableHlo.binary main_v44 main_v49 main_v50 (addf : (⟨S8, .f32⟩ : BufTy).Contents (Elt F) → (⟨S8, .f32⟩ : BufTy).Contents (Elt F) → (⟨S8, .f32⟩ : BufTy).Contents (Elt F)),
    StableHlo.nullary main_cst_7 (constant S_ .f32 0xF149F2CA#32),
    StableHlo.unary main_cst_7 main_v51 (broadcastInDim S8x1024 ![] bcast_S_S8x1024 : (⟨S_, .f32⟩ : BufTy).Contents (Elt F) → (⟨S8x1024, .f32⟩ : BufTy).Contents (Elt F)),
    StableHlo.nullary main_c_8 (constantI S_ 32 0#32),
    StableHlo.unary main_c_8 main_v52 (broadcastInDim S1 ![] bcast_S_S1 : (⟨S_, .i32⟩ : BufTy).Contents (Elt F) → (⟨S1, .i32⟩ : BufTy).Contents (Elt F)),
    StableHlo.ternary main_v51 main_v52 main_v50 main_v53 ((fun x i u => Host.scatter scatter_S8x1024_S1_S8_0_1_1_0 (fun _ b => b) x i u) : (⟨S8x1024, .f32⟩ : BufTy).Contents (Elt F) → (⟨S1, .i32⟩ : BufTy).Contents (Elt F) → (⟨S8, .f32⟩ : BufTy).Contents (Elt F) → (⟨S8x1024, .f32⟩ : BufTy).Contents (Elt F)),
    StableHlo.nullary main_c_9 (constantI S_ 32 0#32),
    StableHlo.unary main_v1 main_v54_0 id,
    StableHlo.unary main_arg4 main_v54_1 id,
    StableHlo.unary main_v35 main_v54_2 id,
    StableHlo.unary main_c_9 main_v54_3 id,
    StableHlo.unary main_v53 main_v54_4 id ]
/-- They touch tensor buffers only. -/
theorem hostOps0_3_sub : (hostOps0_3 : List (HloOp τ sig (Elt F))).Forall fun op => op.bufs ⊆ StableHlo.tcRefs τ sig :=
  ⟨StableHlo.reshape_bufs_sub .., StableHlo.binary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub ..⟩
/-- 19 host operations of @main, in order. -/
abbrev hostOps0_4 : List (HloOp τ sig (Elt F)) :=
  [ StableHlo.unary main_v54_4 main_v55 ((extractStridedSlice S8x1 ![0, 1023] · slices_S8x1024_S8x1_0_1023) : (⟨S8x1024, .f32⟩ : BufTy).Contents (Elt F) → (⟨S8x1, .f32⟩ : BufTy).Contents (Elt F)),
    StableHlo.reshape main_v55 main_v56 (rfl : (.f32 : EltTy) = .f32) shapeCasts_S8x1_S8,
    StableHlo.unary main_arg4 main_v57 ((extractStridedSlice S8x1 ![0, 1023] · slices_S8x1024_S8x1_0_1023) : (⟨S8x1024, .i32⟩ : BufTy).Contents (Elt F) → (⟨S8x1, .i32⟩ : BufTy).Contents (Elt F)),
    StableHlo.reshape main_v57 main_v58 (rfl : (.i32 : EltTy) = .i32) shapeCasts_S8x1_S8,
    StableHlo.nullary main_c_10 (constantI S_ 32 0#32),
    StableHlo.unary main_c_10 main_v59 (broadcastInDim S8 ![] bcast_S_S8 : (⟨S_, .i32⟩ : BufTy).Contents (Elt F) → (⟨S8, .i32⟩ : BufTy).Contents (Elt F)),
    StableHlo.binary main_v58 main_v59 main_v60 (cmpi .slt : (⟨S8, .i32⟩ : BufTy).Contents (Elt F) → (⟨S8, .i32⟩ : BufTy).Contents (Elt F) → (⟨S8, .i1⟩ : BufTy).Contents (Elt F)),
    StableHlo.nullary main_c_11 (constantI S_ 32 4#32),
    StableHlo.unary main_c_11 main_v61 (broadcastInDim S8 ![] bcast_S_S8 : (⟨S_, .i32⟩ : BufTy).Contents (Elt F) → (⟨S8, .i32⟩ : BufTy).Contents (Elt F)),
    StableHlo.binary main_v58 main_v61 main_v62 (addi : (⟨S8, .i32⟩ : BufTy).Contents (Elt F) → (⟨S8, .i32⟩ : BufTy).Contents (Elt F) → (⟨S8, .i32⟩ : BufTy).Contents (Elt F)),
    StableHlo.ternary main_v60 main_v62 main_v58 main_v63 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v63 main_v64 (broadcastInDim S8x1 ![0] bcast_S8_S8x1_0 : (⟨S8, .i32⟩ : BufTy).Contents (Elt F) → (⟨S8x1, .i32⟩ : BufTy).Contents (Elt F)),
    StableHlo.binary main_arg3 main_v64 main_v65 ((fun x i => Host.gather gather_S4_S8x1_S8_n_0_n_n_0_1_1 x i) : (⟨S4, .f32⟩ : BufTy).Contents (Elt F) → (⟨S8x1, .i32⟩ : BufTy).Contents (Elt F) → (⟨S8, .f32⟩ : BufTy).Contents (Elt F)),
    StableHlo.binary main_v56 main_v65 main_v66 (addf : (⟨S8, .f32⟩ : BufTy).Contents (Elt F) → (⟨S8, .f32⟩ : BufTy).Contents (Elt F) → (⟨S8, .f32⟩ : BufTy).Contents (Elt F)),
    StableHlo.binary main_v19 main_v66 main_v67 (subf : (⟨S8, .f32⟩ : BufTy).Contents (Elt F) → (⟨S8, .f32⟩ : BufTy).Contents (Elt F) → (⟨S8, .f32⟩ : BufTy).Contents (Elt F)),
    StableHlo.nullary main_cst_12 (constant S_ .f32 0x00000000#32),
    StableHlo.binary main_v67 main_cst_12 main_v68 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_13 (constant S_ .f32 0x41000000#32),
    StableHlo.binary main_v68 main_cst_13 main_v69 (Host.divf : (⟨S_, .f32⟩ : BufTy).Contents (Elt F) → (⟨S_, .f32⟩ : BufTy).Contents (Elt F) → (⟨S_, .f32⟩ : BufTy).Contents (Elt F)) ]
/-- They touch tensor buffers only. -/
theorem hostOps0_4_sub : (hostOps0_4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub ..⟩
/-- 12 host operations of @main, statements 1 to 60 of the text, in order. -/
abbrev main_part0_ops0 : List (HloOp τ sig (Elt F)) :=
  [ StableHlo.unary main_arg0 main_v0 ((extractStridedSlice S8x2047x8 ![0, 1, 0] · slices_S8x2048x8_S8x2047x8_0_1_0) : (⟨S8x2048x8, .f32⟩ : BufTy).Contents (Elt F) → (⟨S8x2047x8, .f32⟩ : BufTy).Contents (Elt F)),
    StableHlo.unary main_v0 main_v1 ((transpose S2047x8x8 [1, 0, 2] · transposes_S8x2047x8_S2047x8x8_1_0_2) : (⟨S8x2047x8, .f32⟩ : BufTy).Contents (Elt F) → (⟨S2047x8x8, .f32⟩ : BufTy).Contents (Elt F)),
    StableHlo.unary main_arg2 main_v2 (broadcastInDim S1x4 ![1] bcast_S4_S1x4_1 : (⟨S4, .f32⟩ : BufTy).Contents (Elt F) → (⟨S1x4, .f32⟩ : BufTy).Contents (Elt F)),
    StableHlo.unary main_arg0 main_v3 ((extractStridedSlice S8x1x4 ![0, 0, 0] · slices_S8x2048x8_S8x1x4_0_0_0) : (⟨S8x2048x8, .f32⟩ : BufTy).Contents (Elt F) → (⟨S8x1x4, .f32⟩ : BufTy).Contents (Elt F)),
    StableHlo.reshape main_v3 main_v4 (rfl : (.f32 : EltTy) = .f32) shapeCasts_S8x1x4_S8x4,
    StableHlo.unary main_v2 main_v5 (broadcastInDim S8x4 ![0, 1] bcast_S1x4_S8x4_0_1 : (⟨S1x4, .f32⟩ : BufTy).Contents (Elt F) → (⟨S8x4, .f32⟩ : BufTy).Contents (Elt F)),
    StableHlo.binary main_v5 main_v4 main_v6 (addf : (⟨S8x4, .f32⟩ : BufTy).Contents (Elt F) → (⟨S8x4, .f32⟩ : BufTy).Contents (Elt F) → (⟨S8x4, .f32⟩ : BufTy).Contents (Elt F)),
    StableHlo.nullary main_c (constantI S_ 32 0#32),
    StableHlo.unary main_v1 main_v7_0 id,
    StableHlo.unary main_arg1 main_v7_1 id,
    StableHlo.unary main_c main_v7_2 id,
    StableHlo.unary main_v6 main_v7_3 id ]
/-- They touch tensor buffers only. -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub ..⟩
/-- 47 host operations of @main, statements 1 to 60 of the text, in order. -/
abbrev main_part0_ops1 : List (HloOp τ sig (Elt F)) :=
  ( StableHlo.unary main_arg3 main_v8 (broadcastInDim S1x4 ![1] bcast_S4_S1x4_1 : (⟨S4, .f32⟩ : BufTy).Contents (Elt F) → (⟨S1x4, .f32⟩ : BufTy).Contents (Elt F))
  :: StableHlo.unary main_v8 main_v9 (broadcastInDim S8x4 ![0, 1] bcast_S1x4_S8x4_0_1 : (⟨S1x4, .f32⟩ : BufTy).Contents (Elt F) → (⟨S8x4, .f32⟩ : BufTy).Contents (Elt F))
  :: StableHlo.binary main_v7_3 main_v9 main_v10 (addf : (⟨S8x4, .f32⟩ : BufTy).Contents (Elt F) → (⟨S8x4, .f32⟩ : BufTy).Contents (Elt F) → (⟨S8x4, .f32⟩ : BufTy).Contents (Elt F))
  :: StableHlo.nullary main_cst (constant S_ .f32 0xFF800000#32)
  :: StableHlo.binary main_v10 main_cst main_v11 ((fun x v => Host.reduce FloatOps.maximumf x v reducesTo_S8x4_S8_d1 h_S_) : (⟨S8x4, .f32⟩ : BufTy).Contents (Elt F) → (⟨S_, .f32⟩ : BufTy).Contents (Elt F) → (⟨S8, .f32⟩ : BufTy).Contents (Elt F))
  :: StableHlo.unary main_v11 main_v12 (broadcastInDim S8x1 ![0] bcast_S8_S8x1_0 : (⟨S8, .f32⟩ : BufTy).Contents (Elt F) → (⟨S8x1, .f32⟩ : BufTy).Contents (Elt F))
  :: StableHlo.reshape main_v12 main_v13 (rfl : (.f32 : EltTy) = .f32) shapeCasts_S8x1_S8
  :: StableHlo.unary main_v12 main_v14 (broadcastInDim S8x4 ![0, 1] bcast_S8x1_S8x4_0_1 : (⟨S8x1, .f32⟩ : BufTy).Contents (Elt F) → (⟨S8x4, .f32⟩ : BufTy).Contents (Elt F))
  :: StableHlo.binary main_v10 main_v14 main_v15 (subf : (⟨S8x4, .f32⟩ : BufTy).Contents (Elt F) → (⟨S8x4, .f32⟩ : BufTy).Contents (Elt F) → (⟨S8x4, .f32⟩ : BufTy).Contents (Elt F))
  :: StableHlo.unary main_v15 main_v16 (Host.exp : (⟨S8x4, .f32⟩ : BufTy).Contents (Elt F) → (⟨S8x4, .f32⟩ : BufTy).Contents (Elt F))
  :: StableHlo.nullary main_cst_0 (constant S_ .f32 0x00000000#32)
  :: StableHlo.binary main_v16 main_cst_0 main_v17 ((fun x v => Host.reduceAdd x v reducesTo_S8x4_S8_d1 h_S_) : (⟨S8x4, .f32⟩ : BufTy).Contents (Elt F) → (⟨S_, .f32⟩ : BufTy).Contents (Elt F) → (⟨S8, .f32⟩ : BufTy).Contents (Elt F))
  :: StableHlo.unary main_v17 main_v18 (Host.log : (⟨S8, .f32⟩ : BufTy).Contents (Elt F) → (⟨S8, .f32⟩ : BufTy).Contents (Elt F))
  :: StableHlo.binary main_v13 main_v18 main_v19 (addf : (⟨S8, .f32⟩ : BufTy).Contents (Elt F) → (⟨S8, .f32⟩ : BufTy).Contents (Elt F) → (⟨S8, .f32⟩ : BufTy).Contents (Elt F))
  :: StableHlo.unary main_arg4 main_v20 ((extractStridedSlice S8x1023 ![0, 0] · slices_S8x1024_S8x1023_0_0) : (⟨S8x1024, .i32⟩ : BufTy).Contents (Elt F) → (⟨S8x1023, .i32⟩ : BufTy).Contents (Elt F))
  :: StableHlo.unary main_arg4 main_v21 ((extractStridedSlice S8x1023 ![0, 1] · slices_S8x1024_S8x1023_0_1) : (⟨S8x1024, .i32⟩ : BufTy).Contents (Elt F) → (⟨S8x1023, .i32⟩ : BufTy).Contents (Elt F))
  :: StableHlo.nullary main_c_1 (constantI S_ 32 0#32)
  :: StableHlo.unary main_c_1 main_v22 (broadcastInDim S8x1023 ![] bcast_S_S8x1023 : (⟨S_, .i32⟩ : BufTy).Contents (Elt F) → (⟨S8x1023, .i32⟩ : BufTy).Contents (Elt F))
  :: StableHlo.binary main_v20 main_v22 main_v23 (cmpi .slt : (⟨S8x1023, .i32⟩ : BufTy).Contents (Elt F) → (⟨S8x1023, .i32⟩ : BufTy).Contents (Elt F) → (⟨S8x1023, .i1⟩ : BufTy).Contents (Elt F))
  :: StableHlo.nullary main_c_2 (constantI S_ 32 4#32)
  :: StableHlo.unary main_c_2 main_v24 (broadcastInDim S8x1023 ![] bcast_S_S8x1023 : (⟨S_, .i32⟩ : BufTy).Contents (Elt F) → (⟨S8x1023, .i32⟩ : BufTy).Contents (Elt F))
  :: StableHlo.binary main_v20 main_v24 main_v25 (addi : (⟨S8x1023, .i32⟩ : BufTy).Contents (Elt F) → (⟨S8x1023, .i32⟩ : BufTy).Contents (Elt F) → (⟨S8x1023, .i32⟩ : BufTy).Contents (Elt F))
  :: StableHlo.ternary main_v23 main_v25 main_v20 main_v26 (select : (⟨S8x1023, .i1⟩ : BufTy).Contents (Elt F) → (⟨S8x1023, .i32⟩ : BufTy).Contents (Elt F) → (⟨S8x1023, .i32⟩ : BufTy).Contents (Elt F) → (⟨S8x1023, .i32⟩ : BufTy).Contents (Elt F))
  :: StableHlo.nullary main_c_3 (constantI S_ 32 0#32)
  :: StableHlo.unary main_c_3 main_v27 (broadcastInDim S8x1023 ![] bcast_S_S8x1023 : (⟨S_, .i32⟩ : BufTy).Contents (Elt F) → (⟨S8x1023, .i32⟩ : BufTy).Contents (Elt F))
  :: StableHlo.binary main_v21 main_v27 main_v28 (cmpi .slt : (⟨S8x1023, .i32⟩ : BufTy).Contents (Elt F) → (⟨S8x1023, .i32⟩ : BufTy).Contents (Elt F) → (⟨S8x1023, .i1⟩ : BufTy).Contents (Elt F))
  :: StableHlo.nullary main_c_4 (constantI S_ 32 4#32)
  :: StableHlo.unary main_c_4 main_v29 (broadcastInDim S8x1023 ![] bcast_S_S8x1023 : (⟨S_, .i32⟩ : BufTy).Contents (Elt F) → (⟨S8x1023, .i32⟩ : BufTy).Contents (Elt F))
  :: StableHlo.binary main_v21 main_v29 main_v30 (addi : (⟨S8x1023, .i32⟩ : BufTy).Contents (Elt F) → (⟨S8x1023, .i32⟩ : BufTy).Contents (Elt F) → (⟨S8x1023, .i32⟩ : BufTy).Contents (Elt F))
  :: StableHlo.ternary main_v28 main_v30 main_v21 main_v31 (select : (⟨S8x1023, .i1⟩ : BufTy).Contents (Elt F) → (⟨S8x1023, .i32⟩ : BufTy).Contents (Elt F) → (⟨S8x1023, .i32⟩ : BufTy).Contents (Elt F) → (⟨S8x1023, .i32⟩ : BufTy).Contents (Elt F))
  :: StableHlo.unary main_v26 main_v32 (broadcastInDim S8x1023x1 ![0, 1] bcast_S8x1023_S8x1023x1_0_1 : (⟨S8x1023, .i32⟩ : BufTy).Contents (Elt F) → (⟨S8x1023x1, .i32⟩ : BufTy).Contents (Elt F))
  :: StableHlo.unary main_v31 main_v33 (broadcastInDim S8x1023x1 ![0, 1] bcast_S8x1023_S8x1023x1_0_1 : (⟨S8x1023, .i32⟩ : BufTy).Contents (Elt F) → (⟨S8x1023x1, .i32⟩ : BufTy).Contents (Elt F))
  :: StableHlo.binary main_v32 main_v33 main_v34 ((fun a b => concatenate S8x1023x2 2 [⟨S8x1023x1, a⟩, ⟨S8x1023x1, b⟩] concatenates_S8x1023x1_S8x1023x1_S8x1023x2_d2) : (⟨S8x1023x1, .i32⟩ : BufTy).Contents (Elt F) → (⟨S8x1023x1, .i32⟩ : BufTy).Contents (Elt F) → (⟨S8x1023x2, .i32⟩ : BufTy).Contents (Elt F))
  :: StableHlo.binary main_arg1 main_v34 main_v35 ((fun x i => Host.gather gather_S4x4_S8x1023x2_S8x1023_n_01_n_n_01_2_11 x i) : (⟨S4x4, .f32⟩ : BufTy).Contents (Elt F) → (⟨S8x1023x2, .i32⟩ : BufTy).Contents (Elt F) → (⟨S8x1023, .f32⟩ : BufTy).Contents (Elt F))
  :: StableHlo.unary main_arg4 main_v36 ((extractStridedSlice S8x1 ![0, 0] · slices_S8x1024_S8x1_0_0) : (⟨S8x1024, .i32⟩ : BufTy).Contents (Elt F) → (⟨S8x1, .i32⟩ : BufTy).Contents (Elt F))
  :: StableHlo.reshape main_v36 main_v37 (rfl : (.i32 : EltTy) = .i32) shapeCasts_S8x1_S8
  :: StableHlo.nullary main_c_5 (constantI S_ 32 0#32)
  :: StableHlo.unary main_c_5 main_v38 (broadcastInDim S8 ![] bcast_S_S8 : (⟨S_, .i32⟩ : BufTy).Contents (Elt F) → (⟨S8, .i32⟩ : BufTy).Contents (Elt F))
  :: StableHlo.binary main_v37 main_v38 main_v39 (cmpi .slt : (⟨S8, .i32⟩ : BufTy).Contents (Elt F) → (⟨S8, .i32⟩ : BufTy).Contents (Elt F) → (⟨S8, .i1⟩ : BufTy).Contents (Elt F))
  :: StableHlo.nullary main_c_6 (constantI S_ 32 4#32)
  :: StableHlo.unary main_c_6 main_v40 (broadcastInDim S8 ![] bcast_S_S8 : (⟨S_, .i32⟩ : BufTy).Contents (Elt F) → (⟨S8, .i32⟩ : BufTy).Contents (Elt F))
  :: StableHlo.binary main_v37 main_v40 main_v41 (addi : (⟨S8, .i32⟩ : BufTy).Contents (Elt F) → (⟨S8, .i32⟩ : BufTy).Contents (Elt F) → (⟨S8, .i32⟩ : BufTy).Contents (Elt F))
  :: StableHlo.ternary main_v39 main_v41 main_v37 main_v42 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.unary main_v42 main_v43 (broadcastInDim S8x1 ![0] bcast_S8_S8x1_0 : (⟨S8, .i32⟩ : BufTy).Contents (Elt F) → (⟨S8x1, .i32⟩ : BufTy).Contents (Elt F))
  :: StableHlo.binary main_arg2 main_v43 main_v44 ((fun x i => Host.gather gather_S4_S8x1_S8_n_0_n_n_0_1_1 x i) : (⟨S4, .f32⟩ : BufTy).Contents (Elt F) → (⟨S8x1, .i32⟩ : BufTy).Contents (Elt F) → (⟨S8, .f32⟩ : BufTy).Contents (Elt F))
  :: StableHlo.unary main_arg0 main_v45 ((extractStridedSlice S8x1x4 ![0, 0, 0] · slices_S8x2048x8_S8x1x4_0_0_0) : (⟨S8x2048x8, .f32⟩ : BufTy).Contents (Elt F) → (⟨S8x1x4, .f32⟩ : BufTy).Contents (Elt F))
  :: StableHlo.reshape main_v45 main_v46 (rfl : (.f32 : EltTy) = .f32) shapeCasts_S8x1x4_S8x4
  :: [] )
/-- They touch tensor buffers only. -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.reshape_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub ..⟩
/-- The first printed part of the program, as its lists and the first loop. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 1 host operation of @main, statements 61 to 96 of the text, in order. -/
abbrev main_part1_ops0 : List (HloOp τ sig (Elt F)) :=
  [ StableHlo.unary main_arg4 main_v47 ((extractStridedSlice S8x1 ![0, 0] · slices_S8x1024_S8x1_0_0) : (⟨S8x1024, .i32⟩ : BufTy).Contents (Elt F) → (⟨S8x1, .i32⟩ : BufTy).Contents (Elt F)) ]
/-- They touch tensor buffers only. -/
theorem main_part1_ops0_sub : (main_part1_ops0 : List (HloOp τ sig (Elt F))).Forall fun op => op.bufs ⊆ StableHlo.tcRefs τ sig :=
  StableHlo.unary_bufs_sub ..
/-- 22 host operations of @take_along_axis (main_call1), statements 61 to 96 of the text, in order. -/
abbrev main_part1_ops1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8x1, .i32⟩) (broadcastInDim S8x1 ![] bcast_S_S8x1),
    StableHlo.TRef.binary (.of main_v47 : StableHlo.TRef sig ⟨S8x1, .i32⟩) (.of main_call1_v0 : StableHlo.TRef sig ⟨S8x1, .i32⟩) (.of main_call1_v1 : StableHlo.TRef sig ⟨S8x1, .i1⟩) (cmpi .slt),
    StableHlo.TRef.nullary (.of main_call1_c_0 : StableHlo.TRef sig ⟨S_, .i32⟩) (constantI S_ 32 4#32),
    StableHlo.TRef.unary (.of main_call1_c_0 : StableHlo.TRef sig ⟨S_, .i32⟩) (.of main_call1_v2 : StableHlo.TRef sig ⟨S8x1, .i32⟩) (broadcastInDim S8x1 ![] bcast_S_S8x1),
    StableHlo.TRef.binary (.of main_v47 : StableHlo.TRef sig ⟨S8x1, .i32⟩) (.of main_call1_v2 : StableHlo.TRef sig ⟨S8x1, .i32⟩) (.of main_call1_v3 : StableHlo.TRef sig ⟨S8x1, .i32⟩) addi,
    StableHlo.TRef.ternary (.of main_call1_v1 : StableHlo.TRef sig ⟨S8x1, .i1⟩) (.of main_call1_v3 : StableHlo.TRef sig ⟨S8x1, .i32⟩) (.of main_v47 : StableHlo.TRef sig ⟨S8x1, .i32⟩) (.of main_call1_v4 : StableHlo.TRef sig ⟨S8x1, .i32⟩) select,
    StableHlo.TRef.reshape (.of main_call1_v4 : StableHlo.TRef sig ⟨S8x1, .i32⟩) (.of main_call1_v5 : StableHlo.TRef sig ⟨S8x1x1, .i32⟩) (rfl : (.i32 : EltTy) = .i32) shapeCasts_S8x1_S8x1x1,
    StableHlo.TRef.nullary (.of main_call1_c_1 : StableHlo.TRef sig ⟨S1, .i32⟩) (constantI S1 32 3#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8x1x1, .i32⟩) (broadcastInDim S8x1x1 ![] bcast_S_S8x1x1),
    StableHlo.TRef.binary (.of main_call1_v5 : StableHlo.TRef sig ⟨S8x1x1, .i32⟩) (.of main_call1_v6 : StableHlo.TRef sig ⟨S8x1x1, .i32⟩) (.of main_call1_v7 : StableHlo.TRef sig ⟨S8x1x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S8x1x1, .i32⟩) (broadcastInDim S8x1x1 ![0, 1, 2] bcast_S1x1x1_S8x1x1_0_1_2),
    StableHlo.TRef.binary (.of main_call1_v5 : StableHlo.TRef sig ⟨S8x1x1, .i32⟩) (.of main_call1_v9 : StableHlo.TRef sig ⟨S8x1x1, .i32⟩) (.of main_call1_v10 : StableHlo.TRef sig ⟨S8x1x1, .i1⟩) (cmpi .sle),
    StableHlo.TRef.binary (.of main_call1_v7 : StableHlo.TRef sig ⟨S8x1x1, .i1⟩) (.of main_call1_v10 : StableHlo.TRef sig ⟨S8x1x1, .i1⟩) (.of main_call1_v11 : StableHlo.TRef sig ⟨S8x1x1, .i1⟩) andi,
    StableHlo.TRef.nullary (.of main_call1_c_3 : StableHlo.TRef sig ⟨S_, .i1⟩) (constantI S_ 1 1#1),
    StableHlo.TRef.binary (.of main_call1_v11 : StableHlo.TRef sig ⟨S8x1x1, .i1⟩) (.of main_call1_c_3 : StableHlo.TRef sig ⟨S_, .i1⟩) (.of main_call1_v12 : StableHlo.TRef sig ⟨S8x1, .i1⟩) (fun x v => Host.reduce IntOp.andi x v reducesTo_S8x1x1_S8x1_d2 h_S_),
    StableHlo.TRef.binary (.of main_v46 : StableHlo.TRef sig ⟨S8x4, .f32⟩) (.of main_call1_v5 : StableHlo.TRef sig ⟨S8x1x1, .i32⟩) (.of main_call1_v13 : StableHlo.TRef sig ⟨S8x1, .f32⟩) (fun x i => Host.gather gather_S8x4_S8x1x1_S8x1_n_1_0_0_1_2_11 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S8x1, .f32⟩) (broadcastInDim S8x1 ![] bcast_S_S8x1),
    StableHlo.TRef.ternary (.of main_call1_v12 : StableHlo.TRef sig ⟨S8x1, .i1⟩) (.of main_call1_v13 : StableHlo.TRef sig ⟨S8x1, .f32⟩) (.of main_call1_v14 : StableHlo.TRef sig ⟨S8x1, .f32⟩) (.of main_v48 : StableHlo.TRef sig ⟨S8x1, .f32⟩) select ]
/-- They touch tensor buffers only. -/
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 13 host operations of @main, statements 61 to 96 of the text, in order. -/
abbrev main_part1_ops2 : List (HloOp τ sig (Elt F)) :=
  [ StableHlo.reshape main_v48 main_v49 (rfl : (.f32 : EltTy) = .f32) shapeCasts_S8x1_S8,
    StableHlo.binary main_v44 main_v49 main_v50 (addf : (⟨S8, .f32⟩ : BufTy).Contents (Elt F) → (⟨S8, .f32⟩ : BufTy).Contents (Elt F) → (⟨S8, .f32⟩ : BufTy).Contents (Elt F)),
    StableHlo.nullary main_cst_7 (constant S_ .f32 0xF149F2CA#32),
    StableHlo.unary main_cst_7 main_v51 (broadcastInDim S8x1024 ![] bcast_S_S8x1024 : (⟨S_, .f32⟩ : BufTy).Contents (Elt F) → (⟨S8x1024, .f32⟩ : BufTy).Contents (Elt F)),
    StableHlo.nullary main_c_8 (constantI S_ 32 0#32),
    StableHlo.unary main_c_8 main_v52 (broadcastInDim S1 ![] bcast_S_S1 : (⟨S_, .i32⟩ : BufTy).Contents (Elt F) → (⟨S1, .i32⟩ : BufTy).Contents (Elt F)),
    StableHlo.ternary main_v51 main_v52 main_v50 main_v53 ((fun x i u => Host.scatter scatter_S8x1024_S1_S8_0_1_1_0 (fun _ b => b) x i u) : (⟨S8x1024, .f32⟩ : BufTy).Contents (Elt F) → (⟨S1, .i32⟩ : BufTy).Contents (Elt F) → (⟨S8, .f32⟩ : BufTy).Contents (Elt F) → (⟨S8x1024, .f32⟩ : BufTy).Contents (Elt F)),
    StableHlo.nullary main_c_9 (constantI S_ 32 0#32),
    StableHlo.unary main_v1 main_v54_0 id,
    StableHlo.unary main_arg4 main_v54_1 id,
    StableHlo.unary main_v35 main_v54_2 id,
    StableHlo.unary main_c_9 main_v54_3 id,
    StableHlo.unary main_v53 main_v54_4 id ]
/-- They touch tensor buffers only. -/
theorem main_part1_ops2_sub : (main_part1_ops2 : List (HloOp τ sig (Elt F))).Forall fun op => op.bufs ⊆ StableHlo.tcRefs τ sig :=
  ⟨StableHlo.reshape_bufs_sub .., StableHlo.binary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub ..⟩
/-- 19 host operations of @main, statements 61 to 96 of the text, in order. -/
abbrev main_part1_ops3 : List (HloOp τ sig (Elt F)) :=
  [ StableHlo.unary main_v54_4 main_v55 ((extractStridedSlice S8x1 ![0, 1023] · slices_S8x1024_S8x1_0_1023) : (⟨S8x1024, .f32⟩ : BufTy).Contents (Elt F) → (⟨S8x1, .f32⟩ : BufTy).Contents (Elt F)),
    StableHlo.reshape main_v55 main_v56 (rfl : (.f32 : EltTy) = .f32) shapeCasts_S8x1_S8,
    StableHlo.unary main_arg4 main_v57 ((extractStridedSlice S8x1 ![0, 1023] · slices_S8x1024_S8x1_0_1023) : (⟨S8x1024, .i32⟩ : BufTy).Contents (Elt F) → (⟨S8x1, .i32⟩ : BufTy).Contents (Elt F)),
    StableHlo.reshape main_v57 main_v58 (rfl : (.i32 : EltTy) = .i32) shapeCasts_S8x1_S8,
    StableHlo.nullary main_c_10 (constantI S_ 32 0#32),
    StableHlo.unary main_c_10 main_v59 (broadcastInDim S8 ![] bcast_S_S8 : (⟨S_, .i32⟩ : BufTy).Contents (Elt F) → (⟨S8, .i32⟩ : BufTy).Contents (Elt F)),
    StableHlo.binary main_v58 main_v59 main_v60 (cmpi .slt : (⟨S8, .i32⟩ : BufTy).Contents (Elt F) → (⟨S8, .i32⟩ : BufTy).Contents (Elt F) → (⟨S8, .i1⟩ : BufTy).Contents (Elt F)),
    StableHlo.nullary main_c_11 (constantI S_ 32 4#32),
    StableHlo.unary main_c_11 main_v61 (broadcastInDim S8 ![] bcast_S_S8 : (⟨S_, .i32⟩ : BufTy).Contents (Elt F) → (⟨S8, .i32⟩ : BufTy).Contents (Elt F)),
    StableHlo.binary main_v58 main_v61 main_v62 (addi : (⟨S8, .i32⟩ : BufTy).Contents (Elt F) → (⟨S8, .i32⟩ : BufTy).Contents (Elt F) → (⟨S8, .i32⟩ : BufTy).Contents (Elt F)),
    StableHlo.ternary main_v60 main_v62 main_v58 main_v63 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v63 main_v64 (broadcastInDim S8x1 ![0] bcast_S8_S8x1_0 : (⟨S8, .i32⟩ : BufTy).Contents (Elt F) → (⟨S8x1, .i32⟩ : BufTy).Contents (Elt F)),
    StableHlo.binary main_arg3 main_v64 main_v65 ((fun x i => Host.gather gather_S4_S8x1_S8_n_0_n_n_0_1_1 x i) : (⟨S4, .f32⟩ : BufTy).Contents (Elt F) → (⟨S8x1, .i32⟩ : BufTy).Contents (Elt F) → (⟨S8, .f32⟩ : BufTy).Contents (Elt F)),
    StableHlo.binary main_v56 main_v65 main_v66 (addf : (⟨S8, .f32⟩ : BufTy).Contents (Elt F) → (⟨S8, .f32⟩ : BufTy).Contents (Elt F) → (⟨S8, .f32⟩ : BufTy).Contents (Elt F)),
    StableHlo.binary main_v19 main_v66 main_v67 (subf : (⟨S8, .f32⟩ : BufTy).Contents (Elt F) → (⟨S8, .f32⟩ : BufTy).Contents (Elt F) → (⟨S8, .f32⟩ : BufTy).Contents (Elt F)),
    StableHlo.nullary main_cst_12 (constant S_ .f32 0x00000000#32),
    StableHlo.binary main_v67 main_cst_12 main_v68 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_13 (constant S_ .f32 0x41000000#32),
    StableHlo.binary main_v68 main_cst_13 main_v69 (Host.divf : (⟨S_, .f32⟩ : BufTy).Contents (Elt F) → (⟨S_, .f32⟩ : BufTy).Contents (Elt F) → (⟨S_, .f32⟩ : BufTy).Contents (Elt F)) ]
/-- They touch tensor buffers only. -/
theorem main_part1_ops3_sub : (main_part1_ops3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub ..⟩
/-- The second printed part of the program, as its lists and the second loop. -/
theorem main_part1_chain (c : Dev nD) : main_part1 (F := F) c = (Pipeline.chain
  [ StableHlo.seq main_part1_ops0,
    StableHlo.seq main_part1_ops1,
    StableHlo.seq main_part1_ops2,
    HostLoop.enter 1,
    StableHlo.seq main_part1_ops3 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- The program is the sequence of its two printed parts' lists. -/
theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2,
    HostLoop.enter 1,
    StableHlo.seq main_part1_ops3 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- The program's items; a list the printed parts cut in two is given by its two pieces. -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .ops [main_part1_ops1],
    .ops [main_part1_ops2],
    .prog (HostLoop.enter 1),
    .ops [main_part1_ops3] ]

/-- Cutting the items into their pieces gives the two parts' items. -/
theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2,
    HostLoop.enter 1,
    StableHlo.seq main_part1_ops3 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- Joining the pieces gives the program's items. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    HostLoop.enter 1,
    StableHlo.seq hostOps0_4 ] : Prog (TpuEff nD τ sig (Elt F) (HostLoop.Sig (Pipeline.Sig Λ₀ (Fin 0) fun p => (pcfgs (F := F) p).Adm) 2) .tc) PUnit) := by
  chain_rfl

/-- The program is the sequence of these lists and the two loops. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    HostLoop.enter 1,
    StableHlo.seq hostOps0_4 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v7_0 : StableHlo.TRef sig ⟨S2047x8x8, .f32⟩) ![(.of main_v7_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x8x8, .f32⟩) (fun x i => Host.dynamicSlice S1x8x8 x (fun k => (i k (Shape.Idx.first h_S_)).toInt) sliceFits_S2047x8x8_S1x8x8),
    StableHlo.TRef.reshape (.of main_while0b_call0_v0 : StableHlo.TRef sig ⟨S1x8x8, .f32⟩) (.of main_while0b_v70 : StableHlo.TRef sig ⟨S8x8, .f32⟩) (rfl : (.f32 : EltTy) = .f32) shapeCasts_S1x8x8_S8x8 ]
/-- They touch tensor buffers only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 34 host operations of host loop 0's body region, in order. -/
abbrev while0Ops0_1 : List (HloOp τ sig (Elt F)) :=
  ( StableHlo.unary main_while0b_v70 main_while0b_v71 ((extractStridedSlice S8x4 ![0, 0] · slices_S8x8_S8x4_0_0) : (⟨S8x8, .f32⟩ : BufTy).Contents (Elt F) → (⟨S8x4, .f32⟩ : BufTy).Contents (Elt F))
  :: StableHlo.unary main_while0b_v70 main_while0b_v72 ((extractStridedSlice S8x4 ![0, 4] · slices_S8x8_S8x4_0_4) : (⟨S8x8, .f32⟩ : BufTy).Contents (Elt F) → (⟨S8x4, .f32⟩ : BufTy).Contents (Elt F))
  :: StableHlo.unary main_v7_3 main_while0b_v73 (broadcastInDim S8x4x1 ![0, 1] bcast_S8x4_S8x4x1_0_1 : (⟨S8x4, .f32⟩ : BufTy).Contents (Elt F) → (⟨S8x4x1, .f32⟩ : BufTy).Contents (Elt F))
  :: StableHlo.unary main_v7_1 main_while0b_v74 (broadcastInDim S1x4x4 ![1, 2] bcast_S4x4_S1x4x4_1_2 : (⟨S4x4, .f32⟩ : BufTy).Contents (Elt F) → (⟨S1x4x4, .f32⟩ : BufTy).Contents (Elt F))
  :: StableHlo.unary main_while0b_v73 main_while0b_v75 (broadcastInDim S8x4x4 ![0, 1, 2] bcast_S8x4x1_S8x4x4_0_1_2 : (⟨S8x4x1, .f32⟩ : BufTy).Contents (Elt F) → (⟨S8x4x4, .f32⟩ : BufTy).Contents (Elt F))
  :: StableHlo.unary main_while0b_v74 main_while0b_v76 (broadcastInDim S8x4x4 ![0, 1, 2] bcast_S1x4x4_S8x4x4_0_1_2 : (⟨S1x4x4, .f32⟩ : BufTy).Contents (Elt F) → (⟨S8x4x4, .f32⟩ : BufTy).Contents (Elt F))
  :: StableHlo.binary main_while0b_v75 main_while0b_v76 main_while0b_v77 (addf : (⟨S8x4x4, .f32⟩ : BufTy).Contents (Elt F) → (⟨S8x4x4, .f32⟩ : BufTy).Contents (Elt F) → (⟨S8x4x4, .f32⟩ : BufTy).Contents (Elt F))
  :: StableHlo.nullary main_while0b_cst_17 (constant S_ .f32 0xFF800000#32)
  :: StableHlo.binary main_while0b_v77 main_while0b_cst_17 main_while0b_v78 ((fun x v => Host.reduce FloatOps.maximumf x v reducesTo_S8x4x4_S8x4_d1 h_S_) : (⟨S8x4x4, .f32⟩ : BufTy).Contents (Elt F) → (⟨S_, .f32⟩ : BufTy).Contents (Elt F) → (⟨S8x4, .f32⟩ : BufTy).Contents (Elt F))
  :: StableHlo.unary main_while0b_v78 main_while0b_v79 (broadcastInDim S8x1x4 ![0, 2] bcast_S8x4_S8x1x4_0_2 : (⟨S8x4, .f32⟩ : BufTy).Contents (Elt F) → (⟨S8x1x4, .f32⟩ : BufTy).Contents (Elt F))
  :: StableHlo.reshape main_while0b_v79 main_while0b_v80 (rfl : (.f32 : EltTy) = .f32) shapeCasts_S8x1x4_S8x4
  :: StableHlo.unary main_while0b_v79 main_while0b_v81 (broadcastInDim S8x4x4 ![0, 1, 2] bcast_S8x1x4_S8x4x4_0_1_2 : (⟨S8x1x4, .f32⟩ : BufTy).Contents (Elt F) → (⟨S8x4x4, .f32⟩ : BufTy).Contents (Elt F))
  :: StableHlo.binary main_while0b_v77 main_while0b_v81 main_while0b_v82 (subf : (⟨S8x4x4, .f32⟩ : BufTy).Contents (Elt F) → (⟨S8x4x4, .f32⟩ : BufTy).Contents (Elt F) → (⟨S8x4x4, .f32⟩ : BufTy).Contents (Elt F))
  :: StableHlo.unary main_while0b_v82 main_while0b_v83 (Host.exp : (⟨S8x4x4, .f32⟩ : BufTy).Contents (Elt F) → (⟨S8x4x4, .f32⟩ : BufTy).Contents (Elt F))
  :: StableHlo.nullary main_while0b_cst_18 (constant S_ .f32 0x00000000#32)
  :: StableHlo.binary main_while0b_v83 main_while0b_cst_18 main_while0b_v84 ((fun x v => Host.reduceAdd x v reducesTo_S8x4x4_S8x4_d1 h_S_) : (⟨S8x4x4, .f32⟩ : BufTy).Contents (Elt F) → (⟨S_, .f32⟩ : BufTy).Contents (Elt F) → (⟨S8x4, .f32⟩ : BufTy).Contents (Elt F))
  :: StableHlo.unary main_while0b_v84 main_while0b_v85 (Host.log : (⟨S8x4, .f32⟩ : BufTy).Contents (Elt F) → (⟨S8x4, .f32⟩ : BufTy).Contents (Elt F))
  :: StableHlo.binary main_while0b_v80 main_while0b_v85 main_while0b_v86 (addf : (⟨S8x4, .f32⟩ : BufTy).Contents (Elt F) → (⟨S8x4, .f32⟩ : BufTy).Contents (Elt F) → (⟨S8x4, .f32⟩ : BufTy).Contents (Elt F))
  :: StableHlo.binary main_while0b_v86 main_while0b_v71 main_while0b_v87 (addf : (⟨S8x4, .f32⟩ : BufTy).Contents (Elt F) → (⟨S8x4, .f32⟩ : BufTy).Contents (Elt F) → (⟨S8x4, .f32⟩ : BufTy).Contents (Elt F))
  :: StableHlo.binary main_v7_3 main_while0b_v72 main_while0b_v88 (addf : (⟨S8x4, .f32⟩ : BufTy).Contents (Elt F) → (⟨S8x4, .f32⟩ : BufTy).Contents (Elt F) → (⟨S8x4, .f32⟩ : BufTy).Contents (Elt F))
  :: StableHlo.binary main_while0b_v87 main_while0b_v88 main_while0b_v89 (maximumf : (⟨S8x4, .f32⟩ : BufTy).Contents (Elt F) → (⟨S8x4, .f32⟩ : BufTy).Contents (Elt F) → (⟨S8x4, .f32⟩ : BufTy).Contents (Elt F))
  :: StableHlo.binary main_while0b_v87 main_while0b_v88 main_while0b_v90 (subf : (⟨S8x4, .f32⟩ : BufTy).Contents (Elt F) → (⟨S8x4, .f32⟩ : BufTy).Contents (Elt F) → (⟨S8x4, .f32⟩ : BufTy).Contents (Elt F))
  :: StableHlo.binary main_while0b_v90 main_while0b_v90 main_while0b_v91 (cmpf .une : (⟨S8x4, .f32⟩ : BufTy).Contents (Elt F) → (⟨S8x4, .f32⟩ : BufTy).Contents (Elt F) → (⟨S8x4, .i1⟩ : BufTy).Contents (Elt F))
  :: StableHlo.binary main_while0b_v87 main_while0b_v88 main_while0b_v92 (addf : (⟨S8x4, .f32⟩ : BufTy).Contents (Elt F) → (⟨S8x4, .f32⟩ : BufTy).Contents (Elt F) → (⟨S8x4, .f32⟩ : BufTy).Contents (Elt F))
  :: StableHlo.unary main_while0b_v90 main_while0b_v93 (Host.absf : (⟨S8x4, .f32⟩ : BufTy).Contents (Elt F) → (⟨S8x4, .f32⟩ : BufTy).Contents (Elt F))
  :: StableHlo.unary main_while0b_v93 main_while0b_v94 (Host.negf : (⟨S8x4, .f32⟩ : BufTy).Contents (Elt F) → (⟨S8x4, .f32⟩ : BufTy).Contents (Elt F))
  :: StableHlo.unary main_while0b_v94 main_while0b_v95 (Host.exp : (⟨S8x4, .f32⟩ : BufTy).Contents (Elt F) → (⟨S8x4, .f32⟩ : BufTy).Contents (Elt F))
  :: StableHlo.unary main_while0b_v95 main_while0b_v96 (Host.log1p : (⟨S8x4, .f32⟩ : BufTy).Contents (Elt F) → (⟨S8x4, .f32⟩ : BufTy).Contents (Elt F))
  :: StableHlo.binary main_while0b_v89 main_while0b_v96 main_while0b_v97 (addf : (⟨S8x4, .f32⟩ : BufTy).Contents (Elt F) → (⟨S8x4, .f32⟩ : BufTy).Contents (Elt F) → (⟨S8x4, .f32⟩ : BufTy).Contents (Elt F))
  :: StableHlo.ternary main_while0b_v91 main_while0b_v92 main_while0b_v97 main_while0b_v98 (select : (⟨S8x4, .i1⟩ : BufTy).Contents (Elt F) → (⟨S8x4, .f32⟩ : BufTy).Contents (Elt F) → (⟨S8x4, .f32⟩ : BufTy).Contents (Elt F) → (⟨S8x4, .f32⟩ : BufTy).Contents (Elt F))
  :: StableHlo.nullary main_while0b_c_19 (constantI S_ 32 1#32)
  :: StableHlo.binary main_v7_2 main_while0b_c_19 main_while0b_v99 (addi : (⟨S_, .i32⟩ : BufTy).Contents (Elt F) → (⟨S_, .i32⟩ : BufTy).Contents (Elt F) → (⟨S_, .i32⟩ : BufTy).Contents (Elt F))
  :: StableHlo.unary main_while0b_v99 main_v7_2 id
  :: StableHlo.unary main_while0b_v98 main_v7_3 id
  :: [] )
/-- They touch tensor buffers only. -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.reshape_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.binary_bufs_sub .., StableHlo.unary_bufs_sub .., StableHlo.unary_bufs_sub ..⟩
/-- The first loop's body is the sequence of its lists. -/
theorem while0_body_chain : main_while0_body (F := F) = (Pipeline.chain
  [ StableHlo.seq while0Ops0,
    StableHlo.seq while0Ops0_1 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons]
  chain_rfl

/-- 4 host operations of @dynamic_index_in_dim (main_while1b_call2), in order. -/
abbrev while1Ops0 : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v54_0 : StableHlo.TRef sig ⟨S2047x8x8, .f32⟩) ![(.of main_v54_3 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x8x8, .f32⟩) (fun x i => Host.dynamicSlice S1x8x8 x (fun k => (i k (Shape.Idx.first h_S_)).toInt) sliceFits_S2047x8x8_S1x8x8),
    StableHlo.TRef.reshape (.of main_while1b_call2_v0 : StableHlo.TRef sig ⟨S1x8x8, .f32⟩) (.of main_while1b_v70 : StableHlo.TRef sig ⟨S8x8, .f32⟩) (rfl : (.f32 : EltTy) = .f32) shapeCasts_S1x8x8_S8x8 ]
/-- They touch tensor buffers only. -/
theorem while1Ops0_sub : (while1Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 2 host operations of host loop 1's body region, in order. -/
abbrev while1Ops0_1 : List (HloOp τ sig (Elt F)) :=
  [ StableHlo.unary main_while1b_v70 main_while1b_v71 ((extractStridedSlice S8x4 ![0, 0] · slices_S8x8_S8x4_0_0) : (⟨S8x8, .f32⟩ : BufTy).Contents (Elt F) → (⟨S8x4, .f32⟩ : BufTy).Contents (Elt F)),
    StableHlo.unary main_while1b_v70 main_while1b_v72 ((extractStridedSlice S8x4 ![0, 4] · slices_S8x8_S8x4_0_4) : (⟨S8x8, .f32⟩ : BufTy).Contents (Elt F) → (⟨S8x4, .f32⟩ : BufTy).Contents (Elt F)) ]
/-- They touch tensor buffers only. -/
theorem while1Ops0_1_sub : (while1Ops0_1 : List (HloOp τ sig (Elt F))).Forall fun op => op.bufs ⊆ StableHlo.tcRefs τ sig :=
  ⟨StableHlo.unary_bufs_sub .., StableHlo.unary_bufs_sub ..⟩
/-- 22 host operations of @take_along_axis_0 (main_while1b_call3), in order. -/
abbrev while1Ops0_2 : List (HloOp τ sig (Elt F)) :=
  [ StableHlo.TRef.nullary (.of main_while1b_call3_c : StableHlo.TRef sig ⟨S_, .i32⟩) (constantI S_ 32 0#32),
    StableHlo.TRef.unary (.of main_while1b_call3_c : StableHlo.TRef sig ⟨S_, .i32⟩) (.of main_while1b_call3_v0 : StableHlo.TRef sig ⟨S8x1024, .i32⟩) (broadcastInDim S8x1024 ![] bcast_S_S8x1024),
    StableHlo.TRef.binary (.of main_v54_1 : StableHlo.TRef sig ⟨S8x1024, .i32⟩) (.of main_while1b_call3_v0 : StableHlo.TRef sig ⟨S8x1024, .i32⟩) (.of main_while1b_call3_v1 : StableHlo.TRef sig ⟨S8x1024, .i1⟩) (cmpi .slt),
    StableHlo.TRef.nullary (.of main_while1b_call3_c_0 : StableHlo.TRef sig ⟨S_, .i32⟩) (constantI S_ 32 4#32),
    StableHlo.TRef.unary (.of main_while1b_call3_c_0 : StableHlo.TRef sig ⟨S_, .i32⟩) (.of main_while1b_call3_v2 : StableHlo.TRef sig ⟨S8x1024, .i32⟩) (broadcastInDim S8x1024 ![] bcast_S_S8x1024),
    StableHlo.TRef.binary (.of main_v54_1 : StableHlo.TRef sig ⟨S8x1024, .i32⟩) (.of main_while1b_call3_v2 : StableHlo.TRef sig ⟨S8x1024, .i32⟩) (.of main_while1b_call3_v3 : StableHlo.TRef sig ⟨S8x1024, .i32⟩) addi,
    StableHlo.TRef.ternary (.of main_while1b_call3_v1 : StableHlo.TRef sig ⟨S8x1024, .i1⟩) (.of main_while1b_call3_v3 : StableHlo.TRef sig ⟨S8x1024, .i32⟩) (.of main_v54_1 : StableHlo.TRef sig ⟨S8x1024, .i32⟩) (.of main_while1b_call3_v4 : StableHlo.TRef sig ⟨S8x1024, .i32⟩) select,
    StableHlo.TRef.reshape (.of main_while1b_call3_v4 : StableHlo.TRef sig ⟨S8x1024, .i32⟩) (.of main_while1b_call3_v5 : StableHlo.TRef sig ⟨S8x1024x1, .i32⟩) (rfl : (.i32 : EltTy) = .i32) shapeCasts_S8x1024_S8x1024x1,
    StableHlo.TRef.nullary (.of main_while1b_call3_c_1 : StableHlo.TRef sig ⟨S1, .i32⟩) (constantI S1 32 3#32),
    StableHlo.TRef.nullary (.of main_while1b_call3_c_2 : StableHlo.TRef sig ⟨S_, .i32⟩) (constantI S_ 32 0#32),
    StableHlo.TRef.unary (.of main_while1b_call3_c_2 : StableHlo.TRef sig ⟨S_, .i32⟩) (.of main_while1b_call3_v6 : StableHlo.TRef sig ⟨S8x1024x1, .i32⟩) (broadcastInDim S8x1024x1 ![] bcast_S_S8x1024x1),
    StableHlo.TRef.binary (.of main_while1b_call3_v5 : StableHlo.TRef sig ⟨S8x1024x1, .i32⟩) (.of main_while1b_call3_v6 : StableHlo.TRef sig ⟨S8x1024x1, .i32⟩) (.of main_while1b_call3_v7 : StableHlo.TRef sig ⟨S8x1024x1, .i1⟩) (cmpi .sge),
    StableHlo.TRef.unary (.of main_while1b_call3_c_1 : StableHlo.TRef sig ⟨S1, .i32⟩) (.of main_while1b_call3_v8 : StableHlo.TRef sig ⟨S1x1x1, .i32⟩) (broadcastInDim S1x1x1 ![2] bcast_S1_S1x1x1_2),
    StableHlo.TRef.unary (.of main_while1b_call3_v8 : StableHlo.TRef sig ⟨S1x1x1, .i32⟩) (.of main_while1b_call3_v9 : StableHlo.TRef sig ⟨S8x1024x1, .i32⟩) (broadcastInDim S8x1024x1 ![0, 1, 2] bcast_S1x1x1_S8x1024x1_0_1_2),
    StableHlo.TRef.binary (.of main_while1b_call3_v5 : StableHlo.TRef sig ⟨S8x1024x1, .i32⟩) (.of main_while1b_call3_v9 : StableHlo.TRef sig ⟨S8x1024x1, .i32⟩) (.of main_while1b_call3_v10 : StableHlo.TRef sig ⟨S8x1024x1, .i1⟩) (cmpi .sle),
    StableHlo.TRef.binary (.of main_while1b_call3_v7 : StableHlo.TRef sig ⟨S8x1024x1, .i1⟩) (.of main_while1b_call3_v10 : StableHlo.TRef sig ⟨S8x1024x1, .i1⟩) (.of main_while1b_call3_v11 : StableHlo.TRef sig ⟨S8x1024x1, .i1⟩) andi,
    StableHlo.TRef.nullary (.of main_while1b_call3_c_3 : StableHlo.TRef sig ⟨S_, .i1⟩) (constantI S_ 1 1#1),
    StableHlo.TRef.binary (.of main_while1b_call3_v11 : StableHlo.TRef sig ⟨S8x1024x1, .i1⟩) (.of main_while1b_call3_c_3 : StableHlo.TRef sig ⟨S_, .i1⟩) (.of main_while1b_call3_v12 : StableHlo.TRef sig ⟨S8x1024, .i1⟩) (fun x v => Host.reduce IntOp.andi x v reducesTo_S8x1024x1_S8x1024_d2 h_S_),
    StableHlo.TRef.binary (.of main_while1b_v71 : StableHlo.TRef sig ⟨S8x4, .f32⟩) (.of main_while1b_call3_v5 : StableHlo.TRef sig ⟨S8x1024x1, .i32⟩) (.of main_while1b_call3_v13 : StableHlo.TRef sig ⟨S8x1024, .f32⟩) (fun x i => Host.gather gather_S8x4_S8x1024x1_S8x1024_n_1_0_0_1_2_11 x i),
    StableHlo.TRef.nullary (.of main_while1b_call3_cst : StableHlo.TRef sig ⟨S_, .f32⟩) (constant S_ .f32 0x7FC00000#32),
    StableHlo.TRef.unary (.of main_while1b_call3_cst : StableHlo.TRef sig ⟨S_, .f32⟩) (.of main_while1b_call3_v14 : StableHlo.TRef sig ⟨S8x1024, .f32⟩) (broadcastInDim S8x1024 ![] bcast_S_S8x1024),
    StableHlo.TRef.ternary (.of main_while1b_call3_v12 : StableHlo.TRef sig ⟨S8x1024, .i1⟩) (.of main_while1b_call3_v13 : StableHlo.TRef sig ⟨S8x1024, .f32⟩) (.of main_while1b_call3_v14 : StableHlo.TRef sig ⟨S8x1024, .f32⟩) (.of main_while1b_v73 : StableHlo.TRef sig ⟨S8x1024, .f32⟩) select ]
/-- They touch tensor buffers only. -/
theorem while1Ops0_2_sub : (while1Ops0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 22 host operations of @take_along_axis_0 (main_while1b_call4), in order. -/
abbrev while1Ops0_3 : List (HloOp τ sig (Elt F)) :=
  [ StableHlo.TRef.nullary (.of main_while1b_call4_c : StableHlo.TRef sig ⟨S_, .i32⟩) (constantI S_ 32 0#32),
    StableHlo.TRef.unary (.of main_while1b_call4_c : StableHlo.TRef sig ⟨S_, .i32⟩) (.of main_while1b_call4_v0 : StableHlo.TRef sig ⟨S8x1024, .i32⟩) (broadcastInDim S8x1024 ![] bcast_S_S8x1024),
    StableHlo.TRef.binary (.of main_v54_1 : StableHlo.TRef sig ⟨S8x1024, .i32⟩) (.of main_while1b_call4_v0 : StableHlo.TRef sig ⟨S8x1024, .i32⟩) (.of main_while1b_call4_v1 : StableHlo.TRef sig ⟨S8x1024, .i1⟩) (cmpi .slt),
    StableHlo.TRef.nullary (.of main_while1b_call4_c_0 : StableHlo.TRef sig ⟨S_, .i32⟩) (constantI S_ 32 4#32),
    StableHlo.TRef.unary (.of main_while1b_call4_c_0 : StableHlo.TRef sig ⟨S_, .i32⟩) (.of main_while1b_call4_v2 : StableHlo.TRef sig ⟨S8x1024, .i32⟩) (broadcastInDim S8x1024 ![] bcast_S_S8x1024),
    StableHlo.TRef.binary (.of main_v54_1 : StableHlo.TRef sig ⟨S8x1024, .i32⟩) (.of main_while1b_call4_v2 : StableHlo.TRef sig ⟨S8x1024, .i32⟩) (.of main_while1b_call4_v3 : StableHlo.TRef sig ⟨S8x1024, .i32⟩) addi,
    StableHlo.TRef.ternary (.of main_while1b_call4_v1 : StableHlo.TRef sig ⟨S8x1024, .i1⟩) (.of main_while1b_call4_v3 : StableHlo.TRef sig ⟨S8x1024, .i32⟩) (.of main_v54_1 : StableHlo.TRef sig ⟨S8x1024, .i32⟩) (.of main_while1b_call4_v4 : StableHlo.TRef sig ⟨S8x1024, .i32⟩) select,
    StableHlo.TRef.reshape (.of main_while1b_call4_v4 : StableHlo.TRef sig ⟨S8x1024, .i32⟩) (.of main_while1b_call4_v5 : StableHlo.TRef sig ⟨S8x1024x1, .i32⟩) (rfl : (.i32 : EltTy) = .i32) shapeCasts_S8x1024_S8x1024x1,
    StableHlo.TRef.nullary (.of main_while1b_call4_c_1 : StableHlo.TRef sig ⟨S1, .i32⟩) (constantI S1 32 3#32),
    StableHlo.TRef.nullary (.of main_while1b_call4_c_2 : StableHlo.TRef sig ⟨S_, .i32⟩) (constantI S_ 32 0#32),
    StableHlo.TRef.unary (.of main_while1b_call4_c_2 : StableHlo.TRef sig ⟨S_, .i32⟩) (.of main_while1b_call4_v6 : StableHlo.TRef sig ⟨S8x1024x1, .i32⟩) (broadcastInDim S8x1024x1 ![] bcast_S_S8x1024x1),
    StableHlo.TRef.binary (.of main_while1b_call4_v5 : StableHlo.TRef sig ⟨S8x1024x1, .i32⟩) (.of main_while1b_call4_v6 : StableHlo.TRef sig ⟨S8x1024x1, .i32⟩) (.of main_while1b_call4_v7 : StableHlo.TRef sig ⟨S8x1024x1, .i1⟩) (cmpi .sge),
    StableHlo.TRef.unary (.of main_while1b_call4_c_1 : StableHlo.TRef sig ⟨S1, .i32⟩) (.of main_while1b_call4_v8 : StableHlo.TRef sig ⟨S1x1x1, .i32⟩) (broadcastInDim S1x1x1 ![2] bcast_S1_S1x1x1_2),
    StableHlo.TRef.unary (.of main_while1b_call4_v8 : StableHlo.TRef sig ⟨S1x1x1, .i32⟩) (.of main_while1b_call4_v9 : StableHlo.TRef sig ⟨S8x1024x1, .i32⟩) (broadcastInDim S8x1024x1 ![0, 1, 2] bcast_S1x1x1_S8x1024x1_0_1_2),
    StableHlo.TRef.binary (.of main_while1b_call4_v5 : StableHlo.TRef sig ⟨S8x1024x1, .i32⟩) (.of main_while1b_call4_v9 : StableHlo.TRef sig ⟨S8x1024x1, .i32⟩) (.of main_while1b_call4_v10 : StableHlo.TRef sig ⟨S8x1024x1, .i1⟩) (cmpi .sle),
    StableHlo.TRef.binary (.of main_while1b_call4_v7 : StableHlo.TRef sig ⟨S8x1024x1, .i1⟩) (.of main_while1b_call4_v10 : StableHlo.TRef sig ⟨S8x1024x1, .i1⟩) (.of main_while1b_call4_v11 : StableHlo.TRef sig ⟨S8x1024x1, .i1⟩) andi,
    StableHlo.TRef.nullary (.of main_while1b_call4_c_3 : StableHlo.TRef sig ⟨S_, .i1⟩) (constantI S_ 1 1#1),
    StableHlo.TRef.binary (.of main_while1b_call4_v11 : StableHlo.TRef sig ⟨S8x1024x1, .i1⟩) (.of main_while1b_call4_c_3 : StableHlo.TRef sig ⟨S_, .i1⟩) (.of main_while1b_call4_v12 : StableHlo.TRef sig ⟨S8x1024, .i1⟩) (fun x v => Host.reduce IntOp.andi x v reducesTo_S8x1024x1_S8x1024_d2 h_S_),
    StableHlo.TRef.binary (.of main_while1b_v72 : StableHlo.TRef sig ⟨S8x4, .f32⟩) (.of main_while1b_call4_v5 : StableHlo.TRef sig ⟨S8x1024x1, .i32⟩) (.of main_while1b_call4_v13 : StableHlo.TRef sig ⟨S8x1024, .f32⟩) (fun x i => Host.gather gather_S8x4_S8x1024x1_S8x1024_n_1_0_0_1_2_11 x i),
    StableHlo.TRef.nullary (.of main_while1b_call4_cst : StableHlo.TRef sig ⟨S_, .f32⟩) (constant S_ .f32 0x7FC00000#32),
    StableHlo.TRef.unary (.of main_while1b_call4_cst : StableHlo.TRef sig ⟨S_, .f32⟩) (.of main_while1b_call4_v14 : StableHlo.TRef sig ⟨S8x1024, .f32⟩) (broadcastInDim S8x1024 ![] bcast_S_S8x1024),
    StableHlo.TRef.ternary (.of main_while1b_call4_v12 : StableHlo.TRef sig ⟨S8x1024, .i1⟩) (.of main_while1b_call4_v13 : StableHlo.TRef sig ⟨S8x1024, .f32⟩) (.of main_while1b_call4_v14 : StableHlo.TRef sig ⟨S8x1024, .f32⟩) (.of main_while1b_v74 : StableHlo.TRef sig ⟨S8x1024, .f32⟩) select ]
/-- They touch tensor buffers only. -/
theorem while1Ops0_3_sub : (while1Ops0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 21 host operations of host loop 1's body region, in order. -/
abbrev while1Ops0_4 : List (HloOp τ sig (Elt F)) :=
  [ StableHlo.binary main_v54_4 main_while1b_v74 main_while1b_v75 (addf : (⟨S8x1024, .f32⟩ : BufTy).Contents (Elt F) → (⟨S8x1024, .f32⟩ : BufTy).Contents (Elt F) → (⟨S8x1024, .f32⟩ : BufTy).Contents (Elt F)),
    StableHlo.nullary main_while1b_cst_18 (constant S_ .f32 0xF149F2CA#32),
    StableHlo.unary main_while1b_cst_18 main_while1b_v76 (broadcastInDim S8x1 ![] bcast_S_S8x1 : (⟨S_, .f32⟩ : BufTy).Contents (Elt F) → (⟨S8x1, .f32⟩ : BufTy).Contents (Elt F)),
    StableHlo.unary main_v54_4 main_while1b_v77 ((extractStridedSlice S8x1023 ![0, 0] · slices_S8x1024_S8x1023_0_0) : (⟨S8x1024, .f32⟩ : BufTy).Contents (Elt F) → (⟨S8x1023, .f32⟩ : BufTy).Contents (Elt F)),
    StableHlo.binary main_while1b_v77 main_v54_2 main_while1b_v78 (addf : (⟨S8x1023, .f32⟩ : BufTy).Contents (Elt F) → (⟨S8x1023, .f32⟩ : BufTy).Contents (Elt F) → (⟨S8x1023, .f32⟩ : BufTy).Contents (Elt F)),
    StableHlo.binary main_while1b_v76 main_while1b_v78 main_while1b_v79 ((fun a b => concatenate S8x1024 1 [⟨S8x1, a⟩, ⟨S8x1023, b⟩] concatenates_S8x1_S8x1023_S8x1024_d1) : (⟨S8x1, .f32⟩ : BufTy).Contents (Elt F) → (⟨S8x1023, .f32⟩ : BufTy).Contents (Elt F) → (⟨S8x1024, .f32⟩ : BufTy).Contents (Elt F)),
    StableHlo.binary main_while1b_v79 main_while1b_v73 main_while1b_v80 (addf : (⟨S8x1024, .f32⟩ : BufTy).Contents (Elt F) → (⟨S8x1024, .f32⟩ : BufTy).Contents (Elt F) → (⟨S8x1024, .f32⟩ : BufTy).Contents (Elt F)),
    StableHlo.binary main_while1b_v75 main_while1b_v80 main_while1b_v81 (maximumf : (⟨S8x1024, .f32⟩ : BufTy).Contents (Elt F) → (⟨S8x1024, .f32⟩ : BufTy).Contents (Elt F) → (⟨S8x1024, .f32⟩ : BufTy).Contents (Elt F)),
    StableHlo.binary main_while1b_v75 main_while1b_v80 main_while1b_v82 (subf : (⟨S8x1024, .f32⟩ : BufTy).Contents (Elt F) → (⟨S8x1024, .f32⟩ : BufTy).Contents (Elt F) → (⟨S8x1024, .f32⟩ : BufTy).Contents (Elt F)),
    StableHlo.binary main_while1b_v82 main_while1b_v82 main_while1b_v83 (cmpf .une : (⟨S8x1024, .f32⟩ : BufTy).Contents (Elt F) → (⟨S8x1024, .f32⟩ : BufTy).Contents (Elt F) → (⟨S8x1024, .i1⟩ : BufTy).Contents (Elt F)),
    StableHlo.binary main_while1b_v75 main_while1b_v80 main_while1b_v84 (addf : (⟨S8x1024, .f32⟩ : BufTy).Contents (Elt F) → (⟨S8x1024, .f32⟩ : BufTy).Contents (Elt F) → (⟨S8x1024, .f32⟩ : BufTy).Contents (Elt F)),
    StableHlo.unary main_while1b_v82 main_while1b_v85 (Host.absf : (⟨S8x1024, .f32⟩ : BufTy).Contents (Elt F) → (⟨S8x1024, .f32⟩ : BufTy).Contents (Elt F)),
    StableHlo.unary main_while1b_v85 main_while1b_v86 (Host.negf : (⟨S8x1024, .f32⟩ : BufTy).Contents (Elt F) → (⟨S8x1024, .f32⟩ : BufTy).Contents (Elt F)),
    StableHlo.unary main_while1b_v86 main_while1b_v87 (Host.exp : (⟨S8x1024, .f32⟩ : BufTy).Contents (Elt F) → (⟨S8x1024, .f32⟩ : BufTy).Contents (Elt F)),
    StableHlo.unary main_while1b_v87 main_while1b_v88 (Host.log1p : (⟨S8x1024, .f32⟩ : BufTy).Contents (Elt F) → (⟨S8x1024, .f32⟩ : BufTy).Contents (Elt F)),
    StableHlo.binary main_while1b_v81 main_while1b_v88 main_while1b_v89 (addf : (⟨S8x1024, .f32⟩ : BufTy).Contents (Elt F) → (⟨S8x1024, .f32⟩ : BufTy).Contents (Elt F) → (⟨S8x1024, .f32⟩ : BufTy).Contents (Elt F)),
    StableHlo.ternary main_while1b_v83 main_while1b_v84 main_while1b_v89 main_while1b_v90 (select : (⟨S8x1024, .i1⟩ : BufTy).Contents (Elt F) → (⟨S8x1024, .f32⟩ : BufTy).Contents (Elt F) → (⟨S8x1024, .f32⟩ : BufTy).Contents (Elt F) → (⟨S8x1024, .f32⟩ : BufTy).Contents (Elt F)),
    StableHlo.nullary main_while1b_c_19 (constantI S_ 32 1#32),
    StableHlo.binary main_v54_3 main_while1b_c_19 main_while1b_v91 (addi : (⟨S_, .i32⟩ : BufTy).Contents (Elt F) → (⟨S_, .i32⟩ : BufTy).Contents (Elt F) → (⟨S_, .i32⟩ : BufTy).Contents (Elt F)),
    StableHlo.unary main_while1b_v91 main_v54_3 id,
    StableHlo.unary main_while1b_v90 main_v54_4 id ]
/-- They touch tensor buffers only. -/
theorem while1Ops0_4_sub : (while1Ops0_4 : List (HloOp τ sig (Elt F))).Forall fun op => op.bufs ⊆ StableHlo.tcRefs τ sig :=
  ⟨StableHlo.binary_bufs_sub .., StableHlo.nullary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.binary_bufs_sub .., StableHlo.unary_bufs_sub .., StableHlo.unary_bufs_sub ..⟩
/-- The second loop's body is the sequence of its lists. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, Pipeline.chain_cons, StableHlo.chain_seq_cons]
  chain_rfl

theorem hostOps0_fresh : (hostOps0 : List (HloOp τ sig (Elt F))).Forall fun op => op.fresh = ∅ :=
  StableHlo.forall_fresh_of_map rfl
/-- The buffers `hostOps0` writes. -/
abbrev hostOps0_W : List (Ref sig .tc) := [main_v0, main_v1, main_v2, main_v3, main_v4, main_v5, main_v6, main_c, main_v7_0, main_v7_1, main_v7_2, main_v7_3]
theorem hostOps0_writes : (hostOps0 : List (HloOp τ sig (Elt F))).Forall fun op => op.writes ⊆ (hostOps0_W.map (Proc.devRef (τ := τ) .tc)).toFinset :=
  StableHlo.forall_writes_sub_of_map rfl

theorem hostOps0_1_fresh : (hostOps0_1 : List (HloOp τ sig (Elt F))).Forall fun op => op.fresh = ∅ :=
  StableHlo.forall_fresh_of_map rfl
/-- The buffers `hostOps0_1` writes. -/
abbrev hostOps0_1_W : List (Ref sig .tc) := [main_v8, main_v9, main_v10, main_cst, main_v11, main_v12, main_v13, main_v14, main_v15, main_v16, main_cst_0, main_v17, main_v18, main_v19, main_v20, main_v21, main_c_1, main_v22, main_v23, main_c_2, main_v24, main_v25, main_v26, main_c_3, main_v27, main_v28, main_c_4, main_v29, main_v30, main_v31, main_v32, main_v33, main_v34, main_v35, main_v36, main_v37, main_c_5, main_v38, main_v39, main_c_6, main_v40, main_v41, main_v42, main_v43, main_v44, main_v45, main_v46, main_v47]
theorem hostOps0_1_writes : (hostOps0_1 : List (HloOp τ sig (Elt F))).Forall fun op => op.writes ⊆ (hostOps0_1_W.map (Proc.devRef (τ := τ) .tc)).toFinset :=
  StableHlo.forall_writes_sub_of_map rfl

theorem hostOps0_2_fresh : (hostOps0_2 : List (HloOp τ sig (Elt F))).Forall fun op => op.fresh = ∅ :=
  StableHlo.forall_fresh_of_map rfl
/-- The buffers `hostOps0_2` writes. -/
abbrev hostOps0_2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v48]
theorem hostOps0_2_writes : (hostOps0_2 : List (HloOp τ sig (Elt F))).Forall fun op => op.writes ⊆ (hostOps0_2_W.map (Proc.devRef (τ := τ) .tc)).toFinset :=
  StableHlo.forall_writes_sub_of_map rfl

theorem hostOps0_3_fresh : (hostOps0_3 : List (HloOp τ sig (Elt F))).Forall fun op => op.fresh = ∅ :=
  StableHlo.forall_fresh_of_map rfl
/-- The buffers `hostOps0_3` writes. -/
abbrev hostOps0_3_W : List (Ref sig .tc) := [main_v49, main_v50, main_cst_7, main_v51, main_c_8, main_v52, main_v53, main_c_9, main_v54_0, main_v54_1, main_v54_2, main_v54_3, main_v54_4]
theorem hostOps0_3_writes : (hostOps0_3 : List (HloOp τ sig (Elt F))).Forall fun op => op.writes ⊆ (hostOps0_3_W.map (Proc.devRef (τ := τ) .tc)).toFinset :=
  StableHlo.forall_writes_sub_of_map rfl

theorem hostOps0_4_fresh : (hostOps0_4 : List (HloOp τ sig (Elt F))).Forall fun op => op.fresh = ∅ :=
  StableHlo.forall_fresh_of_map rfl
/-- The buffers `hostOps0_4` writes. -/
abbrev hostOps0_4_W : List (Ref sig .tc) := [main_v55, main_v56, main_v57, main_v58, main_c_10, main_v59, main_v60, main_c_11, main_v61, main_v62, main_v63, main_v64, main_v65, main_v66, main_v67, main_cst_12, main_v68, main_cst_13, main_v69]
theorem hostOps0_4_writes : (hostOps0_4 : List (HloOp τ sig (Elt F))).Forall fun op => op.writes ⊆ (hostOps0_4_W.map (Proc.devRef (τ := τ) .tc)).toFinset :=
  StableHlo.forall_writes_sub_of_map rfl

theorem while0Ops0_fresh : (while0Ops0 : List (HloOp τ sig (Elt F))).Forall fun op => op.fresh = ∅ :=
  StableHlo.forall_fresh_of_map rfl
/-- The buffers `while0Ops0` writes. -/
abbrev while0Ops0_W : List (Ref sig .tc) := [main_while0b_call0_c, main_while0b_call0_c_0, main_while0b_call0_v0, main_while0b_v70]
theorem while0Ops0_writes : (while0Ops0 : List (HloOp τ sig (Elt F))).Forall fun op => op.writes ⊆ (while0Ops0_W.map (Proc.devRef (τ := τ) .tc)).toFinset :=
  StableHlo.forall_writes_sub_of_map rfl

theorem while0Ops0_1_fresh : (while0Ops0_1 : List (HloOp τ sig (Elt F))).Forall fun op => op.fresh = ∅ :=
  StableHlo.forall_fresh_of_map rfl
/-- The buffers `while0Ops0_1` writes. -/
abbrev while0Ops0_1_W : List (Ref sig .tc) := [main_while0b_v71, main_while0b_v72, main_while0b_v73, main_while0b_v74, main_while0b_v75, main_while0b_v76, main_while0b_v77, main_while0b_cst_17, main_while0b_v78, main_while0b_v79, main_while0b_v80, main_while0b_v81, main_while0b_v82, main_while0b_v83, main_while0b_cst_18, main_while0b_v84, main_while0b_v85, main_while0b_v86, main_while0b_v87, main_while0b_v88, main_while0b_v89, main_while0b_v90, main_while0b_v91, main_while0b_v92, main_while0b_v93, main_while0b_v94, main_while0b_v95, main_while0b_v96, main_while0b_v97, main_while0b_v98, main_while0b_c_19, main_while0b_v99, main_v7_2, main_v7_3]
theorem while0Ops0_1_writes : (while0Ops0_1 : List (HloOp τ sig (Elt F))).Forall fun op => op.writes ⊆ (while0Ops0_1_W.map (Proc.devRef (τ := τ) .tc)).toFinset :=
  StableHlo.forall_writes_sub_of_map rfl

theorem while1Ops0_fresh : (while1Ops0 : List (HloOp τ sig (Elt F))).Forall fun op => op.fresh = ∅ :=
  StableHlo.forall_fresh_of_map rfl
/-- The buffers `while1Ops0` writes. -/
abbrev while1Ops0_W : List (Ref sig .tc) := [main_while1b_call2_c, main_while1b_call2_c_0, main_while1b_call2_v0, main_while1b_v70]
theorem while1Ops0_writes : (while1Ops0 : List (HloOp τ sig (Elt F))).Forall fun op => op.writes ⊆ (while1Ops0_W.map (Proc.devRef (τ := τ) .tc)).toFinset :=
  StableHlo.forall_writes_sub_of_map rfl

theorem while1Ops0_1_fresh : (while1Ops0_1 : List (HloOp τ sig (Elt F))).Forall fun op => op.fresh = ∅ :=
  StableHlo.forall_fresh_of_map rfl
/-- The buffers `while1Ops0_1` writes. -/
abbrev while1Ops0_1_W : List (Ref sig .tc) := [main_while1b_v71, main_while1b_v72]
theorem while1Ops0_1_writes : (while1Ops0_1 : List (HloOp τ sig (Elt F))).Forall fun op => op.writes ⊆ (while1Ops0_1_W.map (Proc.devRef (τ := τ) .tc)).toFinset :=
  StableHlo.forall_writes_sub_of_map rfl

theorem while1Ops0_2_fresh : (while1Ops0_2 : List (HloOp τ sig (Elt F))).Forall fun op => op.fresh = ∅ :=
  StableHlo.forall_fresh_of_map rfl
/-- The buffers `while1Ops0_2` writes. -/
abbrev while1Ops0_2_W : List (Ref sig .tc) := [main_while1b_call3_c, main_while1b_call3_v0, main_while1b_call3_v1, main_while1b_call3_c_0, main_while1b_call3_v2, main_while1b_call3_v3, main_while1b_call3_v4, main_while1b_call3_v5, main_while1b_call3_c_1, main_while1b_call3_c_2, main_while1b_call3_v6, main_while1b_call3_v7, main_while1b_call3_v8, main_while1b_call3_v9, main_while1b_call3_v10, main_while1b_call3_v11, main_while1b_call3_c_3, main_while1b_call3_v12, main_while1b_call3_v13, main_while1b_call3_cst, main_while1b_call3_v14, main_while1b_v73]
theorem while1Ops0_2_writes : (while1Ops0_2 : List (HloOp τ sig (Elt F))).Forall fun op => op.writes ⊆ (while1Ops0_2_W.map (Proc.devRef (τ := τ) .tc)).toFinset :=
  StableHlo.forall_writes_sub_of_map rfl

theorem while1Ops0_3_fresh : (while1Ops0_3 : List (HloOp τ sig (Elt F))).Forall fun op => op.fresh = ∅ :=
  StableHlo.forall_fresh_of_map rfl
/-- The buffers `while1Ops0_3` writes. -/
abbrev while1Ops0_3_W : List (Ref sig .tc) := [main_while1b_call4_c, main_while1b_call4_v0, main_while1b_call4_v1, main_while1b_call4_c_0, main_while1b_call4_v2, main_while1b_call4_v3, main_while1b_call4_v4, main_while1b_call4_v5, main_while1b_call4_c_1, main_while1b_call4_c_2, main_while1b_call4_v6, main_while1b_call4_v7, main_while1b_call4_v8, main_while1b_call4_v9, main_while1b_call4_v10, main_while1b_call4_v11, main_while1b_call4_c_3, main_while1b_call4_v12, main_while1b_call4_v13, main_while1b_call4_cst, main_while1b_call4_v14, main_while1b_v74]
theorem while1Ops0_3_writes : (while1Ops0_3 : List (HloOp τ sig (Elt F))).Forall fun op => op.writes ⊆ (while1Ops0_3_W.map (Proc.devRef (τ := τ) .tc)).toFinset :=
  StableHlo.forall_writes_sub_of_map rfl

theorem while1Ops0_4_fresh : (while1Ops0_4 : List (HloOp τ sig (Elt F))).Forall fun op => op.fresh = ∅ :=
  StableHlo.forall_fresh_of_map rfl
/-- The buffers `while1Ops0_4` writes. -/
abbrev while1Ops0_4_W : List (Ref sig .tc) := [main_while1b_v75, main_while1b_cst_18, main_while1b_v76, main_while1b_v77, main_while1b_v78, main_while1b_v79, main_while1b_v80, main_while1b_v81, main_while1b_v82, main_while1b_v83, main_while1b_v84, main_while1b_v85, main_while1b_v86, main_while1b_v87, main_while1b_v88, main_while1b_v89, main_while1b_v90, main_while1b_c_19, main_while1b_v91, main_v54_3, main_v54_4]
theorem while1Ops0_4_writes : (while1Ops0_4 : List (HloOp τ sig (Elt F))).Forall fun op => op.writes ⊆ (while1Ops0_4_W.map (Proc.devRef (τ := τ) .tc)).toFinset :=
  StableHlo.forall_writes_sub_of_map rfl

end Cert.ReferenceIdeal.Run

end
-- ==== Proof.TwoLoops.lean ====
module

public import Idealize.ShloMosaic.Lib.Pipeline.Regions
public import Idealize.ShloMosaic.Lib.StableHlo.RunLoop

/-! A program of host operations with two counted loops, one after the other: `pre ; loop ; mid ; loop ; post`.
Every run terminates, and every tensor buffer ends at the fold of the operations: the stretches before the first loop,
its trips, the stretches between, the second loop's trips, the stretches after it. The library's `run_loop` says this
for one loop; here its segments are laid out for two. -/

@[expose] public section

noncomputable section

namespace Cert.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs)

variable {nD : Nat} {τ : Topo} {sig : RefSig} {F : FTy → Type} {Λ₀ : Idealize.SL.Sem.Labels}

local notation "𝕄" => MT nD τ sig Unit (Elt F) ℕ (Option PUnit) ℕ

/-- The programs of the TensorCore over no pipeline and `nL` host loops. -/
abbrev TcProg (nD : Nat) (τ : Topo) (sig : RefSig) (F : FTy → Type) {Λ₀ : Idealize.SL.Sem.Labels} (pcs : Fin 0 → PCfg sig Λ₀ (Elt F))
    (nL : Nat) (A : Type) : Type _ :=
  Prog (TpuEff nD τ sig (Elt F) (HostLoop.Sig (Pipeline.Sig Λ₀ (Fin 0) fun p => (pcs p).Adm) nL) .tc) A

variable (pcs : Fin 0 → PCfg sig Λ₀ (Elt F)) (defs₀ : Defs nD τ sig (Elt F) Λ₀) {nL : Nat}
  (loops : Fin nL → TcProg nD τ sig F pcs nL PUnit)

/-- With no pipeline there is nothing to admit, no ticket and no level. -/
abbrev noAdm : (p : Fin 0) → (pcs p).Adm := fun p => p.elim0
abbrev noTicket : Fin 0 → Ticket (Ix := Unit) (Name := ℕ) (U := Option PUnit) (Lvl := ℕ) (nD := nD) (τ := τ) pcs (noAdm pcs) :=
  fun j => j.elim0
abbrev noLevels : GSem nD τ sig → Finset Unit := fun _ => ∅
abbrev levelZero : GSem nD τ sig → Unit → ℕ := fun _ _ => 0

theorem noCells : Function.Injective (Pipeline.cellOf (nD := nD) (τ := τ) (Pipeline.pin pcs (noAdm pcs))) :=
  fun k => k.1.elim0

/-- What every core carries beside its buffers: its tallies, all zero. -/
abbrev debts (c : Dev nD) : sProp 𝕄 := iprop(∃ W, owes (c : Thread nD τ) (0 : CellTallies nD τ sig Unit) W)

variable {pcs defs₀ loops}

/-- A condition that is right about the buffers is right with the tallies carried past it. -/
theorem carryDebts {cond : TcProg nD τ sig F pcs nL (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops debts cond condOps bodyI W₀ n := by
  intro k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ debts c)
        ⊢ iprop(⌜v = 1#1 ↔ k < n⌝ ∗ boundary (c : Thread nD τ) ∗ held (c : Thread nD τ) (ucRefs τ sig) (after condOps (atTrip condOps bodyI W₀ k c)) ∗ debts c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]; · isplitl [Hbd] <;> iassumption
  iexact HR

/-- One of the two loops: its condition, its body, its number of trips. -/
structure Loop (pcs : Fin 0 → PCfg sig Λ₀ (Elt F)) (loops : Fin nL → TcProg nD τ sig F pcs nL PUnit) where
  l : Fin nL
  cond : TcProg nD τ sig F pcs nL (Elt F .i1)
  body : TcProg nD τ sig F pcs nL PUnit
  hloops : loops l = HostLoop.step l cond body
  condOps : List (HloOp τ sig (Elt F))
  bodyI : List (List (HloOp τ sig (Elt F)))
  hbodyI : Plain bodyI
  hbody : body = Pipeline.chain (bodyI.map fun ops => (seq ops : Prog _ PUnit))
  n : ℕ

/-- A loop's buffers after its last trip and its failing condition, entered at `W₀`. -/
abbrev Loop.exit (a : Loop pcs loops) (W₀ : Dev nD → Valuation τ sig (Elt F)) (c : Dev nD) : Valuation τ sig (Elt F) :=
  after a.condOps (atTrip a.condOps a.bodyI W₀ a.n c)

/-- The specification of a loop's condition when the loop is entered at `W₀`. -/
abbrev Loop.Ok (defs₀ : Defs nD τ sig (Elt F) Λ₀) (a : Loop pcs loops) (W₀ : Dev nD → Valuation τ sig (Elt F)) : Prop :=
  CondSpec pcs defs₀ loops a.cond a.condOps a.bodyI W₀ a.n

variable (a b : Loop pcs loops) (preI midI postI : List (List (HloOp τ sig (Elt F))))
  (m : (ℓ : Loc nD τ sig) → Buf (Elt F) ℓ)

/-- The buffers where the second loop is entered. -/
abbrev entry₂ (c : Dev nD) : Valuation τ sig (Elt F) := afterL midI (a.exit (entryContents preI m) c)

/-- The buffers where the program ends. -/
abbrev final (c : Dev nD) : Valuation τ sig (Elt F) := afterL postI (b.exit (entry₂ a preI midI m) c)

variable (hpre : Plain preI) (hmid : Plain midI) (hpost : Plain postI)

/-- The program's segments, in order. -/
def segs (ha : a.Ok defs₀ (entryContents preI m)) (hb : b.Ok defs₀ (entry₂ a preI midI m)) :
    List (CSeg pcs (noAdm pcs) defs₀ Variants.none noLevels levelZero loops (noTicket pcs)) :=
  segsOf _ _ _ _ _ _ _ _ debts preI hpre (launchContents m)
    ++ loopSeg _ _ _ _ _ _ _ _ a.l a.cond a.body a.hloops a.condOps a.bodyI a.hbodyI a.hbody a.n (entryContents preI m) debts (carryDebts ha)
      :: (segsOf _ _ _ _ _ _ _ _ debts midI hmid (a.exit (entryContents preI m))
        ++ loopSeg _ _ _ _ _ _ _ _ b.l b.cond b.body b.hloops b.condOps b.bodyI b.hbodyI b.hbody b.n (entry₂ a preI midI m) debts (carryDebts hb)
          :: segsOf _ _ _ _ _ _ _ _ debts postI hpost (b.exit (entry₂ a preI midI m)))

/-- The program the segments spell. -/
abbrev items : List (TcProg nD τ sig F pcs nL PUnit) :=
  (preI.map fun ops => (seq ops : Prog _ PUnit)) ++ HostLoop.enter a.l ::
    ((midI.map fun ops => (seq ops : Prog _ PUnit)) ++ HostLoop.enter b.l :: postI.map fun ops => (seq ops : Prog _ PUnit))

theorem segs_prog (ha hb) :
    (segs (defs₀ := defs₀) a b preI midI postI m hpre hmid hpost ha hb).map CSeg.prog = items a b preI midI postI := by
  unfold segs
  rw [List.map_append, List.map_cons, List.map_append, List.map_cons, segsOf_prog, segsOf_prog, segsOf_prog]
  rfl

theorem segs_chains (ha hb) :
    CSeg.Chains (fun c => iprop(held (c : Thread nD τ) (ucRefs τ sig) (launchContents m c) ∗ debts c))
      (segs (defs₀ := defs₀) a b preI midI postI m hpre hmid hpost ha hb)
      (fun c => iprop(iprop(held (c : Thread nD τ) (ucRefs τ sig) (final a b preI midI postI m c)) ∗ ∃ W, owes (c : Thread nD τ) (0 : CellTallies nD τ sig Unit) W)) := by
  unfold segs
  exact CSeg.Chains.append (segsOf_chains _ _ _ _ _ _ _ _ debts preI hpre _)
    ⟨fun _ => .rfl, CSeg.Chains.append (segsOf_chains _ _ _ _ _ _ _ _ debts midI hmid _)
      ⟨fun _ => .rfl, segsOf_chains _ _ _ _ _ _ _ _ debts postI hpost _⟩⟩

include hpre hmid hpost in
/-- The run of the program: it terminates, and every tensor buffer ends at `final`. -/
theorem run [∀ e, Nonempty (Elt F e)] (main : Dev nD → TcProg nD τ sig F pcs nL PUnit)
    (hmain : ∀ c, main c = Pipeline.chain (items a b preI midI postI)) (ρ : Dev nD → PrngReg)
    (ha : a.Ok defs₀ (entryContents preI m)) (hb : b.Ok defs₀ (entry₂ a preI midI m)) :
    θ_run (HostLoop.defs loops (Pipeline.defs pcs defs₀)) (onTc (τ := τ) main) ⟨m, fun _ => 0, ρ⟩
      (fun r => ∀ (c : Dev nD) (x : Ref sig .tc), (Proc.devRef .tc x : DevRef τ sig).isScoped = false →
        r.2.mem ((c.tc : Thread nD τ).loc x) = final a b preI midI postI m c (Proc.devRef .tc x)) :=
  Pipeline.θ_run_regions_loop_kit (Ix := Unit) (Name := ℕ) (U := Option PUnit) (Lvl := ℕ) (J := Fin 0) (P := Fin 0) (Val := Elt F)
    pcs (noAdm pcs) (noCells pcs) defs₀ Variants.none noLevels levelZero loops (noTicket pcs) m ρ main
    (segs a b preI midI postI m hpre hmid hpost ha hb)
    (fun c Q => by
      rw [hmain c]
      show wp _ _ _ (Pipeline.chain ((segs a b preI midI postI m hpre hmid hpost ha hb).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debts c))
    (Tₙ := fun c => iprop(held (c : Thread nD τ) (ucRefs τ sig) (final a b preI midI postI m c)))
    (hch := segs_chains a b preI midI postI m hpre hmid hpost ha hb)
    (hinit := by
      refine Pipeline.initEach noLevels levelZero fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ x ∈ ucRefs τ sig, s.mem ((c : Dev nD), x) = final a b preI midI postI m c x)
    (hfin := fun c s' => by
      unfold held
      iintro ⟨Hh, HSI⟩
      ihave Hr := (pointsTo_read_all (ucRefs τ sig) (fun b => ((c : Dev nD), b)) (fun x => final a b preI midI postI m c x) s') $$ [Hh HSI]
      · isplitl [Hh] <;> iassumption
      icases Hr with ⟨%h, HSI⟩
      imodintro
      isplitr; · ipureintro; exact h
      iexact HSI)
    (hQ := fun _ h c x hx => h c _ (devRef_mem_ucRefs x hx))

end Cert.TwoLoops

end
-- ==== Proof.RefRun.lean ====
module

public import proofs.«01_k».proof.Proof.RefOps
public import proofs.«01_k».proof.Proof.TwoLoops

/-! The reference's run. It has two loops of 2047 trips each (the denominator's recursion, then the numerator's). Their
counters are followed, each condition is specified from its counter, and the run of the whole program is the fold of its
operations. Every argument keeps its contents. -/

@[expose] public section

set_option maxRecDepth 1380

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ### The first loop: the denominator -/

namespace Den

/-- The two operations of its condition: the bound, and the trip counter compared with it. -/
abbrev condOps : List (HloOp τ sig (Elt F)) :=
  [ StableHlo.nullary main_while0c_c_17 (constantI S_ 32 2047#32),
    StableHlo.binary main_v7_2 main_while0c_c_17 main_while0c_v70 (cmpi .slt) ]
theorem condOps_writes : (condOps : List (HloOp τ sig (Elt F))).Forall fun op => op.writes ⊆ (([main_while0c_c_17, main_while0c_v70] : List (Ref sig .tc)).map (Proc.devRef (τ := τ) .tc)).toFinset :=
  StableHlo.forall_writes_sub_of_map rfl

/-- The stretches of its body. -/
abbrev bodyI : List (List (HloOp τ sig (Elt F))) := [while0Ops0, while0Ops0_1]
theorem plain : Plain (bodyI (F := F)) :=
  .cons while0Ops0_sub (hf := List.forall_iff_forall_mem.mp while0Ops0_fresh) (.cons while0Ops0_1_sub (hf := List.forall_iff_forall_mem.mp while0Ops0_1_fresh) (.nil))

/-- Every buffer a trip writes. -/
abbrev writes : List (Ref sig .tc) := [main_while0c_c_17, main_while0c_v70] ++ (while0Ops0_W ++ (while0Ops0_1_W))

/-- A trip leaves alone what it does not write. -/
theorem trip_keeps (V : Valuation τ sig (Elt F)) (x : Ref sig .tc) (hx : x ∉ writes) :
    afterL bodyI (after condOps V) (Proc.devRef .tc x) = V (Proc.devRef .tc x) := by
  simp only [writes, List.mem_append, not_or] at hx
  obtain ⟨h0, h1, h2⟩ := hx
  simp only [afterL_cons, afterL_nil]
  rw [after_of_writes_sub _ _ while0Ops0_1_writes h2, after_of_writes_sub _ _ while0Ops0_writes h1, after_of_writes_sub _ _ condOps_writes h0]

variable (W₀ : Dev nD → Valuation τ sig (Elt F))

/-- The buffers before the `k`-th trip. -/
abbrev atK (k : ℕ) (c : Dev nD) : Valuation τ sig (Elt F) := atTrip condOps bodyI W₀ k c

/-- The whole loop leaves alone what a trip does not write. -/
theorem atK_keeps (c : Dev nD) (x : Ref sig .tc) (hx : x ∉ writes) : ∀ k, atK W₀ k c (Proc.devRef .tc x) = W₀ c (Proc.devRef .tc x)
  | 0 => rfl
  | k + 1 => (trip_keeps _ x hx).trans (atK_keeps c x hx k)

set_option maxRecDepth 100000 in
/-- The body's last stretch counts one on. -/
theorem ctr_step (X : Valuation τ sig (Elt F)) :
    after while0Ops0_1 X (Proc.devRef .tc main_v7_2) = addi (X (Proc.devRef .tc main_v7_2)) (constantI S_ 32 1#32) := by
  after_results
  rfl

/-- The counter counts the trips. -/
theorem atK_ctr (h0 : ∀ c, W₀ c (Proc.devRef .tc main_v7_2) = fun _ => (0#32 : BitVec 32)) (c : Dev nD) :
    ∀ k, atK W₀ k c (Proc.devRef .tc main_v7_2) = fun _ => Scf.iv 0#32 1#32 k
  | 0 => by rw [show atK W₀ 0 c = W₀ c from rfl, h0, Scf.iv_zero]
  | k + 1 => by
    rw [show atK W₀ (k + 1) c = afterL bodyI (after condOps (atK W₀ k c)) from rfl]
    simp only [afterL_cons, afterL_nil]
    rw [ctr_step, after_of_writes_sub _ _ while0Ops0_writes (by decide), after_of_writes_sub _ _ condOps_writes (by decide), atK_ctr h0 c k, Scf.iv_succ]
    rfl

-- applying a rule stated for any thread at the TensorCore thread needs plain definitions unfolded in a type
set_option backward.isDefEq.respectTransparency.types false in
/-- The condition's specification. -/
theorem cond_spec (h0 : ∀ c, W₀ c (Proc.devRef .tc main_v7_2) = fun _ => (0#32 : BitVec 32)) :
    CondSpec (pcfgs (F := F)) defs₀ loops (main_while0_cond (F := F)) condOps bodyI W₀ 2047 := by
  intro k hk c bd
  have hctr := atK_ctr W₀ h0 c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W₀ k c) main_v7_2 HostLoop.idx0)
        (HloOp.result _ (atK W₀ k c) main_while0c_c_17 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  rw [after_cons, after_cons, after_nil]; iexact Hh

/-- The loop. -/
abbrev loop : TwoLoops.Loop (pcfgs (F := F)) (loops (F := F)) where
  l := 0
  cond := main_while0_cond
  body := main_while0_body
  hloops := rfl
  condOps := condOps
  bodyI := bodyI
  hbodyI := plain
  hbody := by rw [while0_body_chain]; rfl
  n := 2047

end Den

/-! ### The second loop: the numerator -/

namespace Num

/-- The two operations of its condition: the bound, and the trip counter compared with it. -/
abbrev condOps : List (HloOp τ sig (Elt F)) :=
  [ StableHlo.nullary main_while1c_c_18 (constantI S_ 32 2047#32),
    StableHlo.binary main_v54_3 main_while1c_c_18 main_while1c_v70 (cmpi .slt) ]
theorem condOps_writes : (condOps : List (HloOp τ sig (Elt F))).Forall fun op => op.writes ⊆ (([main_while1c_c_18, main_while1c_v70] : List (Ref sig .tc)).map (Proc.devRef (τ := τ) .tc)).toFinset :=
  StableHlo.forall_writes_sub_of_map rfl

/-- The stretches of its body. -/
abbrev bodyI : List (List (HloOp τ sig (Elt F))) := [while1Ops0, while1Ops0_1, while1Ops0_2, while1Ops0_3, while1Ops0_4]
theorem plain : Plain (bodyI (F := F)) :=
  .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.nil)))))

/-- Every buffer a trip writes. -/
abbrev writes : List (Ref sig .tc) := [main_while1c_c_18, main_while1c_v70] ++ (while1Ops0_W ++ (while1Ops0_1_W ++ (while1Ops0_2_W ++ (while1Ops0_3_W ++ (while1Ops0_4_W)))))

/-- A trip leaves alone what it does not write. -/
theorem trip_keeps (V : Valuation τ sig (Elt F)) (x : Ref sig .tc) (hx : x ∉ writes) :
    afterL bodyI (after condOps V) (Proc.devRef .tc x) = V (Proc.devRef .tc x) := by
  simp only [writes, List.mem_append, not_or] at hx
  obtain ⟨h0, h1, h2, h3, h4, h5⟩ := hx
  simp only [afterL_cons, afterL_nil]
  rw [after_of_writes_sub _ _ while1Ops0_4_writes h5, after_of_writes_sub _ _ while1Ops0_3_writes h4, after_of_writes_sub _ _ while1Ops0_2_writes h3, after_of_writes_sub _ _ while1Ops0_1_writes h2, after_of_writes_sub _ _ while1Ops0_writes h1, after_of_writes_sub _ _ condOps_writes h0]

variable (W₀ : Dev nD → Valuation τ sig (Elt F))

/-- The buffers before the `k`-th trip. -/
abbrev atK (k : ℕ) (c : Dev nD) : Valuation τ sig (Elt F) := atTrip condOps bodyI W₀ k c

/-- The whole loop leaves alone what a trip does not write. -/
theorem atK_keeps (c : Dev nD) (x : Ref sig .tc) (hx : x ∉ writes) : ∀ k, atK W₀ k c (Proc.devRef .tc x) = W₀ c (Proc.devRef .tc x)
  | 0 => rfl
  | k + 1 => (trip_keeps _ x hx).trans (atK_keeps c x hx k)

set_option maxRecDepth 100000 in
/-- The body's last stretch counts one on. -/
theorem ctr_step (X : Valuation τ sig (Elt F)) :
    after while1Ops0_4 X (Proc.devRef .tc main_v54_3) = addi (X (Proc.devRef .tc main_v54_3)) (constantI S_ 32 1#32) := by
  after_results
  rfl

/-- The counter counts the trips. -/
theorem atK_ctr (h0 : ∀ c, W₀ c (Proc.devRef .tc main_v54_3) = fun _ => (0#32 : BitVec 32)) (c : Dev nD) :
    ∀ k, atK W₀ k c (Proc.devRef .tc main_v54_3) = fun _ => Scf.iv 0#32 1#32 k
  | 0 => by rw [show atK W₀ 0 c = W₀ c from rfl, h0, Scf.iv_zero]
  | k + 1 => by
    rw [show atK W₀ (k + 1) c = afterL bodyI (after condOps (atK W₀ k c)) from rfl]
    simp only [afterL_cons, afterL_nil]
    rw [ctr_step, after_of_writes_sub _ _ while1Ops0_3_writes (by decide), after_of_writes_sub _ _ while1Ops0_2_writes (by decide), after_of_writes_sub _ _ while1Ops0_1_writes (by decide), after_of_writes_sub _ _ while1Ops0_writes (by decide), after_of_writes_sub _ _ condOps_writes (by decide), atK_ctr h0 c k, Scf.iv_succ]
    rfl

-- applying a rule stated for any thread at the TensorCore thread needs plain definitions unfolded in a type
set_option backward.isDefEq.respectTransparency.types false in
/-- The condition's specification. -/
theorem cond_spec (h0 : ∀ c, W₀ c (Proc.devRef .tc main_v54_3) = fun _ => (0#32 : BitVec 32)) :
    CondSpec (pcfgs (F := F)) defs₀ loops (main_while1_cond (F := F)) condOps bodyI W₀ 2047 := by
  intro k hk c bd
  have hctr := atK_ctr W₀ h0 c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W₀ k c) main_v54_3 HostLoop.idx0)
        (HloOp.result _ (atK W₀ k c) main_while1c_c_18 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  rw [after_cons, after_cons, after_nil]; iexact Hh

/-- The loop. -/
abbrev loop : TwoLoops.Loop (pcfgs (F := F)) (loops (F := F)) where
  l := 1
  cond := main_while1_cond
  body := main_while1_body
  hloops := rfl
  condOps := condOps
  bodyI := bodyI
  hbodyI := plain
  hbody := by rw [while1_body_chain]; rfl
  n := 2047

end Num

/-! ### The whole program -/

/-- The stretches before the loops, between them and after them. -/
abbrev preI : List (List (HloOp τ sig (Elt F))) := [hostOps0]
abbrev midI : List (List (HloOp τ sig (Elt F))) := [hostOps0_1, hostOps0_2, hostOps0_3]
abbrev postI : List (List (HloOp τ sig (Elt F))) := [hostOps0_4]

theorem plain_pre : Plain (preI (F := F)) := .cons hostOps0_sub (hf := List.forall_iff_forall_mem.mp hostOps0_fresh) (.nil)
theorem plain_mid : Plain (midI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.nil)))
theorem plain_post : Plain (postI (F := F)) := .cons hostOps0_4_sub (hf := List.forall_iff_forall_mem.mp hostOps0_4_fresh) (.nil)

variable (m : (ℓ : Loc nD τ sig) → Buf (Elt F) ℓ) (ρ : Dev nD → PrngReg)

/-- The buffers where the first loop is entered, where it is left, where the second is entered and left, and at the end. -/
abbrev W0 (c : Dev nD) : Valuation τ sig (Elt F) := entryContents preI m c
abbrev W1 (c : Dev nD) : Valuation τ sig (Elt F) := Den.loop.exit (W0 m) c
abbrev W2 (c : Dev nD) : Valuation τ sig (Elt F) := afterL midI (W1 m c)
abbrev W3 (c : Dev nD) : Valuation τ sig (Elt F) := Num.loop.exit (W2 m) c
abbrev W4 (c : Dev nD) : Valuation τ sig (Elt F) := afterL postI (W3 m c)

theorem ctr0 (c : Dev nD) : W0 m c (Proc.devRef .tc main_v7_2) = fun _ => (0#32 : BitVec 32) := by
  simp only [W0, entryContents, afterL_cons, afterL_nil]
  after_reads_simp
  rfl

theorem ctr1 (c : Dev nD) : W2 m c (Proc.devRef .tc main_v54_3) = fun _ => (0#32 : BitVec 32) := by
  simp only [W2, afterL_cons, afterL_nil]
  generalize after hostOps0_2 (after hostOps0_1 (W1 m c)) = V
  after_reads_simp
  rfl

set_option maxRecDepth 100000 in
/-- The run: every tensor buffer ends at the fold. -/
theorem run_fold : θ_run (defs (F := F)) (onTc (τ := τ) (main (F := F))) ⟨m, fun _ => 0, ρ⟩
    (fun r => ∀ (c : Dev nD) (x : Ref sig .tc), (Proc.devRef .tc x : DevRef τ sig).isScoped = false →
      r.2.mem ((c.tc : Thread nD τ).loc x) = W4 m c (Proc.devRef .tc x)) :=
  TwoLoops.run Den.loop Num.loop preI midI postI m plain_pre plain_mid plain_post main
    (fun c => by rw [main_chain]; rfl) ρ (Den.cond_spec _ (ctr0 m)) (Num.cond_spec _ (ctr1 m))

/-- Every buffer the program writes. -/
abbrev allWrites : List (Ref sig .tc) :=
  hostOps0_W ++ (Den.writes ++ (hostOps0_1_W ++ (hostOps0_2_W ++ (hostOps0_3_W ++ (Num.writes ++ hostOps0_4_W)))))

/-- What nothing writes keeps its contents; also at the loops' entries. -/
theorem W0_keeps (c : Dev nD) (x : Ref sig .tc) (hx : x ∉ hostOps0_W) : W0 m c (Proc.devRef .tc x) = m ((c.tc : Thread nD τ).loc x) := by
  simp only [W0, entryContents, afterL_cons, afterL_nil]
  rw [after_of_writes_sub _ _ hostOps0_writes hx]
theorem W1_keeps (c : Dev nD) (x : Ref sig .tc) (hx : x ∉ Den.writes) : W1 m c (Proc.devRef .tc x) = W0 m c (Proc.devRef .tc x) := by
  have h0 := fun h => hx (List.mem_append_left _ h)
  exact (after_of_writes_sub _ _ Den.condOps_writes h0).trans (Den.atK_keeps _ c x hx 2047)
theorem W2_keeps (c : Dev nD) (x : Ref sig .tc) (hx : x ∉ hostOps0_1_W ++ (hostOps0_2_W ++ hostOps0_3_W)) :
    W2 m c (Proc.devRef .tc x) = W1 m c (Proc.devRef .tc x) := by
  simp only [List.mem_append, not_or] at hx
  obtain ⟨h1, h2, h3⟩ := hx
  simp only [W2, afterL_cons, afterL_nil]
  rw [after_of_writes_sub _ _ hostOps0_3_writes h3, after_of_writes_sub _ _ hostOps0_2_writes h2, after_of_writes_sub _ _ hostOps0_1_writes h1]
theorem W3_keeps (c : Dev nD) (x : Ref sig .tc) (hx : x ∉ Num.writes) : W3 m c (Proc.devRef .tc x) = W2 m c (Proc.devRef .tc x) := by
  have h0 := fun h => hx (List.mem_append_left _ h)
  exact (after_of_writes_sub _ _ Num.condOps_writes h0).trans (Num.atK_keeps _ c x hx 2047)
theorem W4_keeps (c : Dev nD) (x : Ref sig .tc) (hx : x ∉ hostOps0_4_W) : W4 m c (Proc.devRef .tc x) = W3 m c (Proc.devRef .tc x) := by
  simp only [W4, afterL_cons, afterL_nil]
  rw [after_of_writes_sub _ _ hostOps0_4_writes hx]

/-- The arguments are never written. -/
theorem keeps_of_list (c : Dev nD) (x : Ref sig .tc) (h0 : x ∉ hostOps0_W) (h1 : x ∉ Den.writes)
    (h2 : x ∉ hostOps0_1_W ++ (hostOps0_2_W ++ hostOps0_3_W)) (h3 : x ∉ Num.writes) (h4 : x ∉ hostOps0_4_W) :
    W4 m c (Proc.devRef .tc x) = m ((c.tc : Thread nD τ).loc x) :=
  (W4_keeps m c x h4).trans ((W3_keeps m c x h3).trans ((W2_keeps m c x h2).trans ((W1_keeps m c x h1).trans (W0_keeps m c x h0))))

/-- The run, read at the result and the arguments. -/
theorem run : θ_run (defs (F := F)) (onTc (τ := τ) (main (F := F))) ⟨m, fun _ => 0, ρ⟩ fun r => ∀ c : Dev nD,
      r.2.mem ((c.tc : Thread nD τ).loc main_v69) = W4 m c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v69 rfl,
      (h c main_arg0 rfl).trans (keeps_of_list m c main_arg0 (by decide) (by decide) (by decide) (by decide) (by decide)),
      (h c main_arg1 rfl).trans (keeps_of_list m c main_arg1 (by decide) (by decide) (by decide) (by decide) (by decide)),
      (h c main_arg2 rfl).trans (keeps_of_list m c main_arg2 (by decide) (by decide) (by decide) (by decide) (by decide)),
      (h c main_arg3 rfl).trans (keeps_of_list m c main_arg3 (by decide) (by decide) (by decide) (by decide) (by decide)),
      (h c main_arg4 rfl).trans (keeps_of_list m c main_arg4 (by decide) (by decide) (by decide) (by decide) (by decide))⟩) (run_fold m ρ)

end Cert.ReferenceIdeal.Run

end
-- ==== Proof.RefDen.lean ====
module

public import proofs.«01_k».proof.Proof.RefRun
public import proofs.«01_k».proof.Proof.Problem
public import Idealize.ShloMosaic.Lib.StableHlo.ReadAt
public import Idealize.ShloMosaic.Lib.Pointwise

/-!
# The reference's denominator loop

One trip of the loop over the states is the step of `Spec`.
-/

@[expose] public section

set_option maxRecDepth 16384

noncomputable section

namespace Cert.ReferenceIdeal.Val

open Idealize.ShloMosaic Idealize.ShloMosaic.TcCoe Cert.ReferenceIdeal Cert.ReferenceIdeal.Gen Cert.Spec
open Idealize.ShloMosaic.StableHlo Cert.ReferenceIdeal.Run
open Idealize.SL Idealize.SL.Sem

/-- A slice of one row, whose start has the row's number first and zeros after it. -/
theorem slice_row (x : Vec Ideal S2047x8x8 .f32) (s : Fin 3 → ℤ) (k : ℕ) (hk : k < 2047) (h0 : s 0 = k) (h1 : s 1 = 0)
    (h2 : s 2 = 0) (b j : Fin 8) :
    shapeCast S8x8 (Host.dynamicSlice S1x8x8 x s sliceFits_S2047x8x8_S1x8x8) shapeCasts_S1x8x8_S8x8 (ix2 b j)
      = x (ix3 ⟨k, hk⟩ b j) := by
  pointwise
  congr 1
  unfold Host.clampedStart
  congr 1 <;> apply Fin.ext <;> simp [h0, h1, h2]
  omega

/-- A counter's word, read signed, is the counter. -/
theorem counter_toInt (k : ℕ) (hk : k < 2047) : (Scf.iv 0#32 1#32 k).toInt = k := by
  rw [Scf.toInt_iv (lb := 0#32) (ub := 2047#32) (st := 1#32) (by decide) (show k ≤ Scf.trips 0#32 2047#32 1#32 from hk.le)]
  simp

/-- The row of scores that the trip with counter `k` takes. -/
theorem den_row (V : Valuation τ sig (Elt Ideal)) (k : ℕ) (hk : k < 2047)
    (hc : V (Proc.devRef .tc main_v7_2) = fun _ => Scf.iv 0#32 1#32 k) (b j : Fin 8) :
    after while0Ops0 V (Proc.devRef .tc main_while0b_v70) (ix2 b j)
      = V (Proc.devRef .tc main_v7_0) (ix3 ⟨k, hk⟩ b j) := by
  have e0 : upto while0Ops0 V 2 (Proc.devRef .tc main_v7_2) = V (Proc.devRef .tc main_v7_2) := by after_reads_simp
  have e1 : upto while0Ops0 V 2 (Proc.devRef .tc main_while0b_call0_c) = constantI S_ 32 0#32 := by
    after_reads_simp
    rfl
  have e2 : upto while0Ops0 V 2 (Proc.devRef .tc main_while0b_call0_c_0) = constantI S_ 32 0#32 := by
    after_reads_simp
    rfl
  after_reads_simp
  refine slice_row _ _ k hk ?_ ?_ ?_ b j
  · show BitVec.toInt (upto while0Ops0 V 2 (Proc.devRef .tc main_v7_2) _) = k
    rw [e0, hc]
    exact counter_toInt k hk
  · show BitVec.toInt (upto while0Ops0 V 2 (Proc.devRef .tc main_while0b_call0_c) _) = 0
    rw [e1]; rfl
  · show BitVec.toInt (upto while0Ops0 V 2 (Proc.devRef .tc main_while0b_call0_c_0) _) = 0
    rw [e2]; rfl

/-- What one trip makes of the vector over the states. -/
theorem den_trip (V : Valuation τ sig (Elt Ideal)) (p : Crf) (e : Fin 8 → Fin 8 → EReal) (α : Fin 8 → Fin 4 → EReal)
    (he : ∀ b j, V (Proc.devRef .tc main_while0b_v70) (ix2 b j) = e b j)
    (ht : ∀ i j, V (Proc.devRef .tc main_v7_1) (ix2 i j) = p.tr i j)
    (hα : ∀ b j, V (Proc.devRef .tc main_v7_3) (ix2 b j) = α b j) (b : Fin 8) (j : Fin 4) :
    after while0Ops0_1 V (Proc.devRef .tc main_v7_3) (ix2 b j) = denStep p (e b) (α b) j := by
  after_reads_at
  pointwise [id]
  simp only [he, ht, hα, ne_eq, not_true_eq_false, if_false]
  refine Eq.trans ?_ (lae_comm _ _)
  unfold lae
  rw [zero_sub]
  rfl

variable (m : (ℓ : Loc nD τ sig) → Buf (Elt Ideal) ℓ) (c : Dev nD)

/-- The input one device holds. -/
abbrev crf : Crf := ofArrays (m (c.tc.loc main_arg0)) (m (c.tc.loc main_arg1)) (m (c.tc.loc main_arg2))
  (m (c.tc.loc main_arg3)) (m (c.tc.loc main_arg4))

/-- A score that there is. -/
theorem em_read (b : Fin 8) (t : ℕ) (h : t < 2048) (j : Fin 8) :
    (crf m c).em b t j = m (c.tc.loc main_arg0) (ix3 b ⟨t, h⟩ j) := dif_pos h

/-- The rows of scores from position 1 on, where the first loop is entered. -/
theorem rest_em (t : Fin 2047) (b j : Fin 8) :
    W0 m c (Proc.devRef .tc main_v1) (ix3 t b j) = (crf m c).em b (t.val + 1) j := by
  have ht := t.isLt
  simp only [W0, entryContents, afterL_cons, afterL_nil]
  after_reads_at
  rw [em_read m c b (t.val + 1) (by omega) j]
  exact congrArg (fun q : Fin 2048 => m (c.tc.loc main_arg0) (ix3 b q j)) (Fin.ext (Nat.add_comm _ _))

theorem entry_em (t : Fin 2047) (b j : Fin 8) :
    W0 m c (Proc.devRef .tc main_v7_0) (ix3 t b j) = (crf m c).em b (t.val + 1) j := by
  have ht := t.isLt
  simp only [W0, entryContents, afterL_cons, afterL_nil]
  after_reads_at
  pointwise [id]
  rw [em_read m c b (t.val + 1) (by omega) j]
  exact congrArg (fun q : Fin 2048 => m (c.tc.loc main_arg0) (ix3 b q j)) (Fin.ext (Nat.add_comm _ _))

theorem entry_tr (i j : Fin 4) : W0 m c (Proc.devRef .tc main_v7_1) (ix2 i j) = (crf m c).tr i j := by
  simp only [W0, entryContents, afterL_cons, afterL_nil]
  after_reads_at
  rfl

theorem entry_alpha (b : Fin 8) (j : Fin 4) : W0 m c (Proc.devRef .tc main_v7_3) (ix2 b j) = den (crf m c) 0 b j := by
  simp only [W0, entryContents, afterL_cons, afterL_nil]
  after_reads_at
  pointwise [id]
  show _ = (crf m c).bos j + (crf m c).em b 0 (enter j)
  rw [em_read m c b 0 (by omega) (enter j)]
  rfl

/-- The loop's vector after `k` trips. -/
theorem den_at (k : ℕ) (hk : k ≤ 2047) (b : Fin 8) (j : Fin 4) :
    Den.atK (W0 m) k c (Proc.devRef .tc main_v7_3) (ix2 b j) = den (crf m c) k b j := by
  induction k generalizing b j with
  | zero => exact entry_alpha m c b j
  | succ k ih =>
    rw [show Den.atK (W0 m) (k + 1) c = afterL Den.bodyI (after Den.condOps (Den.atK (W0 m) k c)) from rfl]
    simp only [afterL_cons, afterL_nil]
    have cond (x : Ref sig .tc) (hx : x ∉ [main_while0c_c_17, main_while0c_v70]) :
        after Den.condOps (Den.atK (W0 m) k c) (Proc.devRef .tc x) = Den.atK (W0 m) k c (Proc.devRef .tc x) :=
      after_of_writes_sub _ _ Den.condOps_writes hx
    have row (x : Ref sig .tc) (hx : x ∉ while0Ops0_W) (h : x ∉ [main_while0c_c_17, main_while0c_v70]) :
        after while0Ops0 (after Den.condOps (Den.atK (W0 m) k c)) (Proc.devRef .tc x) = Den.atK (W0 m) k c (Proc.devRef .tc x) :=
      (after_of_writes_sub _ _ while0Ops0_writes hx).trans (cond x h)
    refine den_trip _ (crf m c) (fun b => (crf m c).em b (k + 1)) (den (crf m c) k) ?_ ?_ ?_ b j
    · intro b j
      rw [den_row _ k (by omega) (by rw [cond _ (by decide), Den.atK_ctr _ (ctr0 m) c k]) b j, cond _ (by decide),
        Den.atK_keeps _ c _ (by decide) k]
      exact entry_em m c ⟨k, by omega⟩ b j
    · intro i j
      rw [row _ (by decide) (by decide), Den.atK_keeps _ c _ (by decide) k]
      exact entry_tr m c i j
    · intro b j
      rw [row _ (by decide) (by decide)]
      exact ih (by omega) b j

/-- The vector where the loop is left. -/
theorem den_exit (b : Fin 8) (j : Fin 4) : W1 m c (Proc.devRef .tc main_v7_3) (ix2 b j) = den (crf m c) 2047 b j := by
  have h : W1 m c (Proc.devRef .tc main_v7_3) = Den.atK (W0 m) 2047 c (Proc.devRef .tc main_v7_3) :=
    after_of_writes_sub _ _ Den.condOps_writes (by decide)
  rw [h]
  exact den_at m c 2047 le_rfl b j

end Cert.ReferenceIdeal.Val
-- ==== Proof.RefTake.lean ====
module

public import proofs.«01_k».proof.Proof.RefDen

/-!
# Entries picked by a target

The reference picks entries by `take_along_axis` and by plain indexing.
-/

@[expose] public section

set_option maxRecDepth 16384

noncomputable section

namespace Cert.ReferenceIdeal.Val

open Idealize.ShloMosaic Idealize.ShloMosaic.TcCoe Cert.ReferenceIdeal Cert.ReferenceIdeal.Gen Cert.Spec
open Idealize.ShloMosaic.StableHlo Cert.ReferenceIdeal.Run
open Idealize.SL Idealize.SL.Sem

/-- A target is not negative, so its word is not wrapped. -/
theorem wrap_word (n : Fin 4) :
    Scalar.select (IntOp.cmpi .slt (BitVec.ofNat 32 n.val) 0#32) (IntOp.addi (BitVec.ofNat 32 n.val) 4#32)
      (BitVec.ofNat 32 n.val) = BitVec.ofNat 32 n.val := by
  revert n; decide

theorem wrapped {w : BitVec 32} {n : Fin 4} (h : w = BitVec.ofNat 32 n.val) :
    Scalar.select (IntOp.cmpi .slt w 0#32) (IntOp.addi w 4#32) w = BitVec.ofNat 32 n.val := by
  rw [h, wrap_word]

/-- A target is in range. -/
theorem in_range (n : Fin 4) :
    IntOp.andi (IntOp.cmpi .sge (BitVec.ofNat 32 n.val) 0#32) (IntOp.cmpi .sle (BitVec.ofNat 32 n.val) 3#32) = 1#1 := by
  revert n; decide

/-- The conjunction of nothing but ones. -/
theorem fold_ones {ι : Type} (s : Finset ι) : Finset.fold IntOp.andi 1#1 (fun _ : ι => 1#1) s = 1#1 := by
  classical
  induction s using Finset.induction with
  | empty => rfl
  | insert a s ha ih => rw [Finset.fold_insert ha, ih]; rfl

/-- A target's word, read signed and clamped to the table, is the target. -/
theorem clamp_word (n : Fin 4) : min (BitVec.ofNat 32 n.val).toInt.toNat 3 = n.val := by
  revert n; decide

/-- One entry of each row of a table of eight rows, `n` times: `take_along_axis`. -/
abbrev alongDims (n : ℕ) (wf : GatherDims.WF ⟨2, ![8, 4]⟩ ⟨3, ![8, n, 1]⟩ ⟨2, ![8, n]⟩ [] [1] [0] [1] [0] 2 ![1, 1]) :
    GatherDims ⟨2, ![8, 4]⟩ ⟨3, ![8, n, 1]⟩ ⟨2, ![8, n]⟩ where
  offsetDims := []
  collapsedSliceDims := [1]
  operandBatchingDims := [0]
  startIndicesBatchingDims := [0]
  startIndexMap := [1]
  indexVectorDim := 2
  sliceSizes := ![1, 1]
  wf := wf

/-- Entry `(b, l)` of it is entry `g` of row `b`, where the word at `(b, l)` is `g`'s. -/
theorem along {α : Type} (n : ℕ) (wf : GatherDims.WF ⟨2, ![8, 4]⟩ ⟨3, ![8, n, 1]⟩ ⟨2, ![8, n]⟩ [] [1] [0] [1] [0] 2 ![1, 1])
    (x : (⟨2, ![8, 4]⟩ : Shape).Idx → α) (idx : IVec ⟨3, ![8, n, 1]⟩ 32) (b : Fin 8) (l : Fin n) (g : Fin 4)
    (hg : idx (ix3 b l 0) = BitVec.ofNat 32 g.val) : Host.gather (alongDims n wf) x idx (ix2 b l) = x (ix2 b g) := by
  unfold Host.gather
  congr 1
  funext a
  refine Fin.ext ?_
  show (alongDims n wf).start _ idx a + (alongDims n wf).batchCoord _ a + (alongDims n wf).offCoord _ a = _
  match a with
  | ⟨0, h0⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, h0⟩ : Fin 2) ∈ (alongDims n wf).operandBatchingDims from List.mem_singleton.mpr rfl)]
    rfl
  | ⟨1, h1⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ (alongDims n wf).startIndexMap from List.mem_singleton.mpr rfl)]
    have hsi : (alongDims n wf).siIdx (ix2 b l) ⟨List.idxOf (⟨1, h1⟩ : Fin 2) (alongDims n wf).startIndexMap,
        List.idxOf_lt_length_iff.2 (List.mem_singleton.mpr rfl)⟩ = ix3 b l 0 := by
      funext q; refine Fin.ext ?_
      match q with
      | ⟨0, _⟩ => rfl
      | ⟨1, _⟩ => rfl
      | ⟨2, _⟩ => rfl
    rw [hsi, hg]
    exact clamp_word g

/-- Entries of a table of four numbers. -/
theorem pick1 {α : Type} (x : S4.Idx → α) (idx : IVec S8x1 32) (b : Fin 8) (g : Fin 4)
    (hg : idx (ix2 b 0) = BitVec.ofNat 32 g.val) :
    Host.gather gather_S4_S8x1_S8_n_0_n_n_0_1_1 x idx (ix1 b) = x (ix1 g) := by
  unfold Host.gather
  congr 1
  funext a
  obtain rfl : a = 0 := Subsingleton.elim _ _
  refine Fin.ext ?_
  show gather_S4_S8x1_S8_n_0_n_n_0_1_1.start _ idx 0 + gather_S4_S8x1_S8_n_0_n_n_0_1_1.batchCoord _ 0
    + gather_S4_S8x1_S8_n_0_n_n_0_1_1.offCoord _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S8x1_S8_n_0_n_n_0_1_1.startIndexMap from List.mem_singleton.mpr rfl)]
  have hsi : gather_S4_S8x1_S8_n_0_n_n_0_1_1.siIdx (ix1 b) ⟨List.idxOf (0 : Fin 1) gather_S4_S8x1_S8_n_0_n_n_0_1_1.startIndexMap,
      List.idxOf_lt_length_iff.2 (List.mem_singleton.mpr rfl)⟩ = ix2 b 0 := by
    funext q; refine Fin.ext ?_
    match q with
    | ⟨0, _⟩ => rfl
    | ⟨1, _⟩ => rfl
  rw [hsi, hg]
  exact clamp_word g

/-- Entries of the square table, picked by two words. -/
theorem pick2 {α : Type} (x : S4x4.Idx → α) (idx : IVec S8x1023x2 32) (b : Fin 8) (l : Fin 1023) (g h : Fin 4)
    (hg : idx (ix3 b l 0) = BitVec.ofNat 32 g.val) (hh : idx (ix3 b l 1) = BitVec.ofNat 32 h.val) :
    Host.gather gather_S4x4_S8x1023x2_S8x1023_n_01_n_n_01_2_11 x idx (ix2 b l) = x (ix2 g h) := by
  unfold Host.gather
  congr 1
  funext a
  refine Fin.ext ?_
  show gather_S4x4_S8x1023x2_S8x1023_n_01_n_n_01_2_11.start _ idx a
    + gather_S4x4_S8x1023x2_S8x1023_n_01_n_n_01_2_11.batchCoord _ a
    + gather_S4x4_S8x1023x2_S8x1023_n_01_n_n_01_2_11.offCoord _ a = _
  have ha : a ∈ gather_S4x4_S8x1023x2_S8x1023_n_01_n_n_01_2_11.startIndexMap := by revert a; decide
  have hc : a ∈ gather_S4x4_S8x1023x2_S8x1023_n_01_n_n_01_2_11.collapsedSliceDims := by revert a; decide
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos ha]
  have hsi : gather_S4x4_S8x1023x2_S8x1023_n_01_n_n_01_2_11.siIdx (ix2 b l)
      ⟨List.idxOf a gather_S4x4_S8x1023x2_S8x1023_n_01_n_n_01_2_11.startIndexMap,
      List.idxOf_lt_length_iff.2 ha⟩ = ix3 b l a := by
    funext q; refine Fin.ext ?_
    match q with
    | ⟨0, _⟩ => rfl
    | ⟨1, _⟩ => rfl
    | ⟨2, _⟩ =>
      match a with
      | ⟨0, _⟩ => rfl
      | ⟨1, _⟩ => rfl
  rw [hsi]
  match a with
  | ⟨0, _⟩ =>
    show min (idx (ix3 b l 0)).toInt.toNat 3 = g.val
    rw [hg]; exact clamp_word g
  | ⟨1, _⟩ =>
    show min (idx (ix3 b l 1)).toInt.toNat 3 = h.val
    rw [hh]; exact clamp_word h

/-- What a trip picks of the first four columns of its row. -/
theorem take_enter (V : Valuation τ sig (Elt Ideal)) (g : Fin 8 → Fin 1024 → Fin 4)
    (hg : ∀ b l, V (Proc.devRef .tc main_v54_1) (ix2 b l) = BitVec.ofNat 32 (g b l).val) (b : Fin 8) (l : Fin 1024) :
    after while1Ops0_2 V (Proc.devRef .tc main_while1b_v73) (ix2 b l)
      = V (Proc.devRef .tc main_while1b_v71) (ix2 b (g b l)) := by
  after_reads_at
  simp only [hg, wrap_word, in_range, fold_ones]
  exact along 1024 _ _ _ b l (g b l) (wrapped (hg b l))

/-- What a trip picks of the last four columns of its row. -/
theorem take_stay (V : Valuation τ sig (Elt Ideal)) (g : Fin 8 → Fin 1024 → Fin 4)
    (hg : ∀ b l, V (Proc.devRef .tc main_v54_1) (ix2 b l) = BitVec.ofNat 32 (g b l).val) (b : Fin 8) (l : Fin 1024) :
    after while1Ops0_3 V (Proc.devRef .tc main_while1b_v74) (ix2 b l)
      = V (Proc.devRef .tc main_while1b_v72) (ix2 b (g b l)) := by
  after_reads_at
  simp only [hg, wrap_word, in_range, fold_ones]
  exact along 1024 _ _ _ b l (g b l) (wrapped (hg b l))

/-- What is picked of the first position's row. -/
theorem take_first (V : Valuation τ sig (Elt Ideal)) (g : Fin 8 → Fin 4)
    (hg : ∀ b, V (Proc.devRef .tc main_v47) (ix2 b 0) = BitVec.ofNat 32 (g b).val) (b : Fin 8) :
    after hostOps0_2 V (Proc.devRef .tc main_v48) (ix2 b 0) = V (Proc.devRef .tc main_v46) (ix2 b (g b)) := by
  after_reads_at
  simp only [hg, wrap_word, in_range, fold_ones]
  exact along 1 _ _ _ b 0 (g b) (wrapped (hg b))

end Cert.ReferenceIdeal.Val
-- ==== Proof.RefNum.lean ====
module

public import proofs.«01_k».proof.Proof.RefTake

/-!
# The reference's numerator loop

One trip of the loop over the target positions is the step of `Spec`.
-/

@[expose] public section

set_option maxRecDepth 16384

noncomputable section

namespace Cert.ReferenceIdeal.Val

open Idealize.ShloMosaic Idealize.ShloMosaic.TcCoe Cert.ReferenceIdeal Cert.ReferenceIdeal.Gen Cert.Spec
open Idealize.ShloMosaic.StableHlo Cert.ReferenceIdeal.Run
open Idealize.SL Idealize.SL.Sem

/-- The row of scores that the trip with counter `k` takes. -/
theorem num_row (V : Valuation τ sig (Elt Ideal)) (k : ℕ) (hk : k < 2047)
    (hc : V (Proc.devRef .tc main_v54_3) = fun _ => Scf.iv 0#32 1#32 k) (b j : Fin 8) :
    after while1Ops0 V (Proc.devRef .tc main_while1b_v70) (ix2 b j)
      = V (Proc.devRef .tc main_v54_0) (ix3 ⟨k, hk⟩ b j) := by
  have e0 : upto while1Ops0 V 2 (Proc.devRef .tc main_v54_3) = V (Proc.devRef .tc main_v54_3) := by after_reads_simp
  have e1 : upto while1Ops0 V 2 (Proc.devRef .tc main_while1b_call2_c) = constantI S_ 32 0#32 := by
    after_reads_simp
    rfl
  have e2 : upto while1Ops0 V 2 (Proc.devRef .tc main_while1b_call2_c_0) = constantI S_ 32 0#32 := by
    after_reads_simp
    rfl
  after_reads_simp
  refine slice_row _ _ k hk ?_ ?_ ?_ b j
  · show BitVec.toInt (upto while1Ops0 V 2 (Proc.devRef .tc main_v54_3) _) = k
    rw [e0, hc]
    exact counter_toInt k hk
  · show BitVec.toInt (upto while1Ops0 V 2 (Proc.devRef .tc main_while1b_call2_c) _) = 0
    rw [e1]; rfl
  · show BitVec.toInt (upto while1Ops0 V 2 (Proc.devRef .tc main_while1b_call2_c_0) _) = 0
    rw [e2]; rfl

/-- The first four columns of the row. -/
theorem enter_cols (V : Valuation τ sig (Elt Ideal)) (b : Fin 8) (j : Fin 4) :
    after while1Ops0_1 V (Proc.devRef .tc main_while1b_v71) (ix2 b j)
      = V (Proc.devRef .tc main_while1b_v70) (ix2 b (enter j)) := by
  after_reads_at

/-- The last four. -/
theorem stay_cols (V : Valuation τ sig (Elt Ideal)) (b : Fin 8) (j : Fin 4) :
    after while1Ops0_1 V (Proc.devRef .tc main_while1b_v72) (ix2 b j)
      = V (Proc.devRef .tc main_while1b_v70) (ix2 b (stay j)) := by
  after_reads_at

/-- What the last stretch makes of the vector over the positions. -/
theorem num_step (V : Valuation τ sig (Elt Ideal)) (s e : Fin 8 → Fin 1024 → EReal) (T : Fin 8 → Fin 1023 → EReal)
    (α : Fin 8 → Fin 1024 → EReal)
    (hs : ∀ b l, V (Proc.devRef .tc main_while1b_v74) (ix2 b l) = s b l)
    (he : ∀ b l, V (Proc.devRef .tc main_while1b_v73) (ix2 b l) = e b l)
    (hT : ∀ b l, V (Proc.devRef .tc main_v54_2) (ix2 b l) = T b l)
    (hα : ∀ b l, V (Proc.devRef .tc main_v54_4) (ix2 b l) = α b l) (b : Fin 8) (l : Fin 1024) :
    after while1Ops0_4 V (Proc.devRef .tc main_v54_4) (ix2 b l)
      = lae (α b l + s b l)
        ((if h : l.val = 0 then neg else α b (prev l) + T b ⟨l.val - 1, by omega⟩) + e b l) := by
  have u1 : ∀ q, upto while1Ops0_4 V 5 (Proc.devRef .tc main_while1b_v76) q = neg := by
    intro q
    after_reads_simp
    rfl
  have u2 : ∀ (b : Fin 8) (q : Fin 1023), upto while1Ops0_4 V 5 (Proc.devRef .tc main_while1b_v78) (ix2 b q)
      = α b ⟨q.val, by omega⟩ + T b q := by
    intro b q
    after_reads_simp
    pointwise
    rw [hT]
    exact congrArg (· + T b q) (hα b ⟨q.val, by omega⟩)
  have mv : (if h : l.val < 1 then upto while1Ops0_4 V 5 (Proc.devRef .tc main_while1b_v76) (ix2 b ⟨l.val, h⟩)
      else upto while1Ops0_4 V 5 (Proc.devRef .tc main_while1b_v78) (ix2 b ⟨l.val - 1, by omega⟩) : EReal)
      = if h : l.val = 0 then neg else α b (prev l) + T b ⟨l.val - 1, by omega⟩ := by
    by_cases h : l.val = 0
    · rw [dif_pos h, dif_pos (by omega)]
      exact u1 _
    · rw [dif_neg h, dif_neg (by omega)]
      refine (u2 b ⟨l.val - 1, by omega⟩).trans ?_
      refine congrArg (fun z : Fin 1024 => α b z + T b ⟨l.val - 1, by omega⟩) (Fin.ext ?_)
      show l.val - 1 = (l.val + 1024 - 1) % 1024
      omega
  after_reads_at
  pointwise [id]
  simp only [hs, he, hα, ne_eq, not_true_eq_false, if_false]
  erw [mv]
  unfold lae
  rw [zero_sub]

/-- The reference's problem at the loop: the rows of scores, the targets, the transitions between neighbouring targets. -/
structure Entry (V : Valuation τ sig (Elt Ideal)) (p : Crf) : Prop where
  em : ∀ (t : Fin 2047) (b j : Fin 8), V (Proc.devRef .tc main_v54_0) (ix3 t b j) = p.em b (t.val + 1) j
  tg : ∀ b l, V (Proc.devRef .tc main_v54_1) (ix2 b l) = BitVec.ofNat 32 (p.tg b l).val
  tr : ∀ (b : Fin 8) (l : Fin 1023), V (Proc.devRef .tc main_v54_2) (ix2 b l)
    = p.tr (p.tg b ⟨l.val, by omega⟩) (p.tg b ⟨l.val + 1, by omega⟩)

/-- What one trip makes of the vector over the positions. -/
theorem num_trip (V : Valuation τ sig (Elt Ideal)) (p : Crf) (hV : Entry V p) (k : ℕ) (hk : k < 2047)
    (hc : V (Proc.devRef .tc main_v54_3) = fun _ => Scf.iv 0#32 1#32 k) (α : Fin 8 → Fin 1024 → EReal)
    (hα : ∀ b l, V (Proc.devRef .tc main_v54_4) (ix2 b l) = α b l) (b : Fin 8) (l : Fin 1024) :
    afterL Num.bodyI V (Proc.devRef .tc main_v54_4) (ix2 b l) = numStep p b (p.em b (k + 1)) (α b) l := by
  simp only [afterL_cons, afterL_nil]
  have k1 (x : Ref sig .tc) (h0 : x ∉ while1Ops0_W) (h1 : x ∉ while1Ops0_1_W) :
      after while1Ops0_1 (after while1Ops0 V) (Proc.devRef .tc x) = V (Proc.devRef .tc x) :=
    (after_of_writes_sub _ _ while1Ops0_1_writes h1).trans (after_of_writes_sub _ _ while1Ops0_writes h0)
  have k3 (x : Ref sig .tc) (h0 : x ∉ while1Ops0_W) (h1 : x ∉ while1Ops0_1_W) (h2 : x ∉ while1Ops0_2_W)
      (h3 : x ∉ while1Ops0_3_W) :
      after while1Ops0_3 (after while1Ops0_2 (after while1Ops0_1 (after while1Ops0 V))) (Proc.devRef .tc x)
        = V (Proc.devRef .tc x) :=
    (after_of_writes_sub _ _ while1Ops0_3_writes h3).trans
      ((after_of_writes_sub _ _ while1Ops0_2_writes h2).trans (k1 x h0 h1))
  have row (b j : Fin 8) : after while1Ops0 V (Proc.devRef .tc main_while1b_v70) (ix2 b j) = p.em b (k + 1) j := by
    rw [num_row V k hk hc b j]
    exact hV.em ⟨k, hk⟩ b j
  refine (num_step _ (fun b l => p.em b (k + 1) (stay (p.tg b l))) (fun b l => p.em b (k + 1) (enter (p.tg b l)))
    (fun b l => p.tr (p.tg b ⟨l.val, by omega⟩) (p.tg b ⟨l.val + 1, by omega⟩)) α ?_ ?_ ?_ ?_ b l).trans ?_
  · intro b l
    rw [take_stay _ p.tg (fun b l => by
        rw [after_of_writes_sub _ _ while1Ops0_2_writes (by decide), k1 _ (by decide) (by decide)]; exact hV.tg b l) b l,
      after_of_writes_sub _ _ while1Ops0_2_writes (by decide), stay_cols]
    exact row b _
  · intro b l
    rw [after_of_writes_sub _ _ while1Ops0_3_writes (by decide),
      take_enter _ p.tg (fun b l => by rw [k1 _ (by decide) (by decide)]; exact hV.tg b l) b l, enter_cols]
    exact row b _
  · intro b l
    rw [k3 _ (by decide) (by decide) (by decide) (by decide)]
    exact hV.tr b l
  · intro b l
    rw [k3 _ (by decide) (by decide) (by decide) (by decide)]
    exact hα b l
  · unfold numStep
    congr 2
    by_cases h : l.val = 0
    · rw [dif_pos h, if_pos h]
    · rw [dif_neg h, if_neg h]
      have e : (⟨l.val - 1, by omega⟩ : Fin 1024) = prev l := Fin.ext (by
        show l.val - 1 = (l.val + 1024 - 1) % 1024
        omega)
      have e' : (⟨l.val - 1 + 1, by omega⟩ : Fin 1024) = l := Fin.ext (by show l.val - 1 + 1 = l.val; omega)
      show α b (prev l) + p.tr (p.tg b ⟨l.val - 1, by omega⟩) (p.tg b ⟨l.val - 1 + 1, by omega⟩) = _
      rw [e, e']

variable (m : (ℓ : Loc nD τ sig) → Buf (Elt Ideal) ℓ) (c : Dev nD)

/-- The loop's vector after `k` trips. -/
theorem num_at (p : Crf) (hp : Entry (W2 m c) p)
    (h0 : ∀ b l, W2 m c (Proc.devRef .tc main_v54_4) (ix2 b l) = num p 0 b l)
    (k : ℕ) (hk : k ≤ 2047) (b : Fin 8) (l : Fin 1024) :
    Num.atK (W2 m) k c (Proc.devRef .tc main_v54_4) (ix2 b l) = num p k b l := by
  induction k generalizing b l with
  | zero => exact h0 b l
  | succ k ih =>
    rw [show Num.atK (W2 m) (k + 1) c = afterL Num.bodyI (after Num.condOps (Num.atK (W2 m) k c)) from rfl]
    have cond (x : Ref sig .tc) (hx : x ∉ [main_while1c_c_18, main_while1c_v70]) :
        after Num.condOps (Num.atK (W2 m) k c) (Proc.devRef .tc x) = Num.atK (W2 m) k c (Proc.devRef .tc x) :=
      after_of_writes_sub _ _ Num.condOps_writes hx
    refine num_trip _ p ⟨?_, ?_, ?_⟩ k (by omega) ?_ (num p k) ?_ b l
    · intro t b j
      rw [cond _ (by decide), Num.atK_keeps _ c _ (by decide) k]
      exact hp.em t b j
    · intro b l
      rw [cond _ (by decide), Num.atK_keeps _ c _ (by decide) k]
      exact hp.tg b l
    · intro b l
      rw [cond _ (by decide), Num.atK_keeps _ c _ (by decide) k]
      exact hp.tr b l
    · rw [cond _ (by decide), Num.atK_ctr _ (ctr1 m) c k]
    · intro b l
      rw [cond _ (by decide)]
      exact ih (by omega) b l

/-- The vector where the loop is left. -/
theorem num_exit (p : Crf) (hp : Entry (W2 m c) p)
    (h0 : ∀ b l, W2 m c (Proc.devRef .tc main_v54_4) (ix2 b l) = num p 0 b l) (b : Fin 8) (l : Fin 1024) :
    W3 m c (Proc.devRef .tc main_v54_4) (ix2 b l) = num p 2047 b l := by
  have h : W3 m c (Proc.devRef .tc main_v54_4) = Num.atK (W2 m) 2047 c (Proc.devRef .tc main_v54_4) :=
    after_of_writes_sub _ _ Num.condOps_writes (by decide)
  rw [h]
  exact num_at m c p hp h0 2047 le_rfl b l

end Cert.ReferenceIdeal.Val
-- ==== Proof.RefEntry.lean ====
module

public import proofs.«01_k».proof.Proof.RefNum
public import Idealize.ShloMosaic.Lib.Routing.OpsOne

/-!
# Between the reference's loops

The normaliser of the states, and what the second loop starts from.
-/

@[expose] public section

set_option maxRecDepth 16384

noncomputable section

namespace Cert.ReferenceIdeal.Val

open Idealize.ShloMosaic Idealize.ShloMosaic.TcCoe Cert.ReferenceIdeal Cert.ReferenceIdeal.Gen Cert.Spec
open Idealize.ShloMosaic.StableHlo Cert.ReferenceIdeal.Run
open Idealize.SL Idealize.SL.Sem

/-- The normaliser: the log of the sum over the states, with the largest taken out. -/
theorem logz (V : Valuation τ sig (Elt Ideal)) (D : Fin 8 → Fin 4 → EReal) (E : Fin 4 → EReal)
    (hD : ∀ b j, V (Proc.devRef .tc main_v7_3) (ix2 b j) = D b j)
    (hE : ∀ j, V (Proc.devRef .tc main_arg3) (ix1 j) = E j) (b : Fin 8) :
    after hostOps0_1 V (Proc.devRef .tc main_v19) (ix1 b) = lse (fun j => D b j + E j) := by
  after_reads_at
  pointwise
  simp only [hD, hE]
  rfl

/-- The transitions between neighbouring targets. -/
theorem trans_y (V : Valuation τ sig (Elt Ideal)) (T : Fin 4 → Fin 4 → EReal) (g : Fin 8 → Fin 1024 → Fin 4)
    (hT : ∀ i j, V (Proc.devRef .tc main_arg1) (ix2 i j) = T i j)
    (hg : ∀ b l, V (Proc.devRef .tc main_arg4) (ix2 b l) = BitVec.ofNat 32 (g b l).val) (b : Fin 8) (l : Fin 1023) :
    after hostOps0_1 V (Proc.devRef .tc main_v35) (ix2 b l) = T (g b ⟨l.val, by omega⟩) (g b ⟨l.val + 1, by omega⟩) := by
  have u1 : ∀ (q : Fin 1), upto hostOps0_1 V 32 (Proc.devRef .tc main_v32) (ix3 b l q)
      = BitVec.ofNat 32 (g b ⟨l.val, by omega⟩).val := by
    intro q
    after_reads_simp
    pointwise
    exact wrapped (hg b ⟨l.val, by omega⟩)
  have u2 : ∀ (q : Fin 1), upto hostOps0_1 V 32 (Proc.devRef .tc main_v33) (ix3 b l q)
      = BitVec.ofNat 32 (g b ⟨l.val + 1, by omega⟩).val := by
    intro q
    after_reads_simp
    pointwise
    refine wrapped ((congrArg (fun z : Fin 1024 => V (Proc.devRef .tc main_arg4) (ix2 b z)) (Fin.ext ?_)).trans
      (hg b ⟨l.val + 1, by omega⟩))
    exact Nat.add_comm _ _
  after_reads_at
  refine (pick2 _ _ b l (g b ⟨l.val, by omega⟩) (g b ⟨l.val + 1, by omega⟩) ?_ ?_).trans (hT _ _)
  · pointwise
    exact u1 _
  · pointwise
    exact u2 _

/-- The score of starting at the first target. -/
theorem start_score (V : Valuation τ sig (Elt Ideal)) (B : Fin 4 → EReal) (g : Fin 8 → Fin 1024 → Fin 4)
    (hB : ∀ j, V (Proc.devRef .tc main_arg2) (ix1 j) = B j)
    (hg : ∀ b l, V (Proc.devRef .tc main_arg4) (ix2 b l) = BitVec.ofNat 32 (g b l).val) (b : Fin 8) :
    after hostOps0_1 V (Proc.devRef .tc main_v44) (ix1 b) = B (g b 0) := by
  after_reads_at
  refine (pick1 _ _ b (g b 0) ?_).trans (hB _)
  pointwise
  exact wrapped (hg b 0)

/-- The first position's scores of entering the states. -/
theorem first_row (V : Valuation τ sig (Elt Ideal)) (b : Fin 8) (j : Fin 4) :
    after hostOps0_1 V (Proc.devRef .tc main_v46) (ix2 b j) = V (Proc.devRef .tc main_arg0) (ix3 b 0 (enter j)) := by
  after_reads_at

/-- The first targets. -/
theorem first_target (V : Valuation τ sig (Elt Ideal)) (b : Fin 8) :
    after hostOps0_1 V (Proc.devRef .tc main_v47) (ix2 b 0) = V (Proc.devRef .tc main_arg4) (ix2 b 0) := by
  after_reads_at

/-- Writing a vector into the first column. -/
theorem set_column (x : S8x1024.Idx → EReal) (idx : IVec S1 32) (u : S8.Idx → EReal) (h : (idx (ix1 0)).toInt = 0)
    (b : Fin 8) (l : Fin 1024) :
    Host.scatter scatter_S8x1024_S1_S8_0_1_1_0 (fun _ v => v) x idx u (ix2 b l)
      = if l.val = 0 then u (ix1 b) else x (ix2 b l) := by
  have h' : (idx (ValueIdx.ix1 0)).toInt = ((0 : Fin 1024).val : ℤ) := by rw [← ix1_eq_valueIdx]; exact h
  have lands (j : S8.Idx) (hj : scatter_S8x1024_S1_S8_0_1_1_0.resultIdx? j idx = some (ix2 b l)) : j 0 = b ∧ l = 0 := by
    refine (Routing.lands_col scatter_S8x1024_S1_S8_0_1_1_0 rfl rfl idx 0 h' (j 0) b l).1 ?_
    rw [← ix2_eq_valueIdx, ← hj]
    exact congrArg (fun t => scatter_S8x1024_S1_S8_0_1_1_0.resultIdx? t idx) (ValueIdx.eq_ix1 j).symm
  by_cases hl : l.val = 0
  · rw [if_pos hl]
    refine Routing.scatter_set_hit _ x idx u _ _ (fun j hj => ?_) (ix1 b) ?_
    · refine congrArg u ?_
      rw [ix1_eq_valueIdx, ← (lands j hj).1]
      exact ValueIdx.eq_ix1 j
    · rw [ix1_eq_valueIdx, ix2_eq_valueIdx]
      exact (Routing.lands_col scatter_S8x1024_S1_S8_0_1_1_0 rfl rfl idx 0 h' b b l).2 ⟨rfl, Fin.ext hl⟩
  · rw [if_neg hl]
    exact Routing.scatter_set_miss _ x idx u _ fun j hj => hl (congrArg Fin.val (lands j hj).2)

/-- The vector that the second loop starts from. -/
theorem start_alpha (V : Valuation τ sig (Elt Ideal)) (f s : Fin 8 → EReal)
    (hf : ∀ b, V (Proc.devRef .tc main_v44) (ix1 b) = f b)
    (hs : ∀ b, V (Proc.devRef .tc main_v48) (ix2 b 0) = s b) (b : Fin 8) (l : Fin 1024) :
    after hostOps0_3 V (Proc.devRef .tc main_v54_4) (ix2 b l) = if l.val = 0 then f b + s b else neg := by
  after_reads_at
  rw [id]
  refine (set_column _ _ _ rfl b l).trans ?_
  rw [← hf b, ← hs b]
  rfl

variable (m : (ℓ : Loc nD τ sig) → Buf (Elt Ideal) ℓ) (c : Dev nD)

/-- The target words are the targets' numbers. -/
abbrev Words : Prop := ∀ b l, m (c.tc.loc main_arg4) (ix2 b l) = BitVec.ofNat 32 ((crf m c).tg b l).val

/-- An argument where the first loop is left. -/
theorem W1_arg (x : Ref sig .tc) (h0 : x ∉ hostOps0_W) (h1 : x ∉ Den.writes) :
    W1 m c (Proc.devRef .tc x) = m (c.tc.loc x) := (W1_keeps m c x h1).trans (W0_keeps m c x h0)

/-- What the stretches between the loops leave of the first of them. -/
theorem W2_of_first (x : Ref sig .tc) (h2 : x ∉ hostOps0_2_W) (h3 : x ∉ hostOps0_3_W) :
    W2 m c (Proc.devRef .tc x) = after hostOps0_1 (W1 m c) (Proc.devRef .tc x) := by
  simp only [W2, afterL_cons, afterL_nil]
  rw [after_of_writes_sub _ _ hostOps0_3_writes h3, after_of_writes_sub _ _ hostOps0_2_writes h2]

/-- The normaliser, where the second loop is entered. -/
theorem logz_entry (b : Fin 8) :
    W2 m c (Proc.devRef .tc main_v19) (ix1 b) = lse (fun j => den (crf m c) 2047 b j + (crf m c).eos j) := by
  rw [W2_of_first m c _ (by decide) (by decide)]
  refine logz _ (den (crf m c) 2047) (crf m c).eos (den_exit m c) (fun j => ?_) b
  rw [W1_arg m c _ (by decide) (by decide)]
  rfl

/-- The copies that the second loop carries. -/
theorem copy_em (V : Valuation τ sig (Elt Ideal)) : after hostOps0_3 V (Proc.devRef .tc main_v54_0) = V (Proc.devRef .tc main_v1) := by
  after_reads_simp
  rfl
theorem copy_tg (V : Valuation τ sig (Elt Ideal)) : after hostOps0_3 V (Proc.devRef .tc main_v54_1) = V (Proc.devRef .tc main_arg4) := by
  after_reads_simp
  rfl
theorem copy_tr (V : Valuation τ sig (Elt Ideal)) : after hostOps0_3 V (Proc.devRef .tc main_v54_2) = V (Proc.devRef .tc main_v35) := by
  after_reads_simp
  rfl

/-- What the second loop carries of the problem. -/
theorem num_entry (hY : Words m c) : Entry (W2 m c) (crf m c) := by
  refine ⟨fun t b j => ?_, fun b l => ?_, fun b l => ?_⟩ <;> simp only [W2, afterL_cons, afterL_nil]
  · rw [copy_em, after_of_writes_sub _ _ hostOps0_2_writes (by decide), after_of_writes_sub _ _ hostOps0_1_writes (by decide),
      W1_keeps m c _ (by decide)]
    exact rest_em m c t b j
  · rw [copy_tg, after_of_writes_sub _ _ hostOps0_2_writes (by decide), after_of_writes_sub _ _ hostOps0_1_writes (by decide),
      W1_arg m c _ (by decide) (by decide)]
    exact hY b l
  · rw [copy_tr, after_of_writes_sub _ _ hostOps0_2_writes (by decide)]
    refine trans_y _ (crf m c).tr (crf m c).tg (fun i j => ?_) (fun b l => ?_) b l
    · rw [W1_arg m c _ (by decide) (by decide)]; rfl
    · rw [W1_arg m c _ (by decide) (by decide)]; exact hY b l

/-- The vector that the second loop starts from is the numerator's first. -/
theorem num_first (hY : Words m c) (b : Fin 8) (l : Fin 1024) :
    W2 m c (Proc.devRef .tc main_v54_4) (ix2 b l) = num (crf m c) 0 b l := by
  simp only [W2, afterL_cons, afterL_nil]
  refine (start_alpha _ (fun b => (crf m c).bos ((crf m c).tg b 0))
    (fun b => (crf m c).em b 0 (enter ((crf m c).tg b 0))) (fun b => ?_) (fun b => ?_) b l).trans rfl
  · rw [after_of_writes_sub _ _ hostOps0_2_writes (by decide)]
    refine start_score _ (crf m c).bos (crf m c).tg (fun j => ?_) (fun b l => ?_) b
    · rw [W1_arg m c _ (by decide) (by decide)]; rfl
    · rw [W1_arg m c _ (by decide) (by decide)]; exact hY b l
  · rw [take_first _ (fun b => (crf m c).tg b 0) (fun b => by
      rw [first_target, W1_arg m c _ (by decide) (by decide)]; exact hY b 0) b, first_row,
      W1_arg m c _ (by decide) (by decide), em_read m c b 0 (by omega)]
    rfl

/-- The numerator's vector where the second loop is left. -/
theorem num_end (hY : Words m c) (b : Fin 8) (l : Fin 1024) :
    W3 m c (Proc.devRef .tc main_v54_4) (ix2 b l) = num (crf m c) 2047 b l :=
  num_exit m c (crf m c) (num_entry m c hY) (num_first m c hY) b l

end Cert.ReferenceIdeal.Val
-- ==== Proof.RefEnd.lean ====
module

public import proofs.«01_k».proof.Proof.RefEntry

/-!
# The reference's value

Its run ends with `Spec.loss` in the result.
-/

@[expose] public section

set_option maxRecDepth 16384

noncomputable section

namespace Cert.ReferenceIdeal.Val

open Idealize.ShloMosaic Idealize.ShloMosaic.TcCoe Cert.ReferenceIdeal Cert.ReferenceIdeal.Gen Cert.Spec
open Idealize.ShloMosaic.StableHlo Cert.ReferenceIdeal.Run
open Idealize.SL Idealize.SL.Sem

/-- One row's loss. -/
theorem row_loss (V : Valuation τ sig (Elt Ideal)) (Z : Fin 8 → EReal) (A : Fin 8 → Fin 1024 → EReal) (E : Fin 4 → EReal)
    (g : Fin 8 → Fin 1024 → Fin 4) (hZ : ∀ b, V (Proc.devRef .tc main_v19) (ix1 b) = Z b)
    (hA : ∀ b l, V (Proc.devRef .tc main_v54_4) (ix2 b l) = A b l)
    (hE : ∀ j, V (Proc.devRef .tc main_arg3) (ix1 j) = E j)
    (hg : ∀ b l, V (Proc.devRef .tc main_arg4) (ix2 b l) = BitVec.ofNat 32 (g b l).val) (q : S_.Idx) :
    after hostOps0_4 V (Proc.devRef .tc main_v69) q
      = Ideal.div (∑ b, (Z b - (A b 1023 + E (g b 1023)))) (Ideal.ofBits .f32 0x41000000#32) := by
  after_reads_at
  pointwise
  refine congrArg (fun z => Ideal.div z (Ideal.ofBits .f32 0x41000000#32)) (Finset.sum_congr rfl fun b _ => ?_)
  rw [hZ, hA]
  refine congrArg (fun z => Z b - (A b 1023 + z)) ((pick1 _ _ b (g b 1023) ?_).trans (hE _))
  pointwise
  exact wrapped (hg b 1023)

variable (m : (ℓ : Loc nD τ sig) → Buf (Elt Ideal) ℓ) (ρ : Dev nD → PrngReg)

/-- The result's buffer at the end. -/
theorem value (c : Dev nD) (hY : Words m c) : W4 m c (Proc.devRef .tc main_v69) = fun _ => loss (crf m c) := by
  have arg (x : Ref sig .tc) (h0 : x ∉ hostOps0_W) (h1 : x ∉ Den.writes)
      (h2 : x ∉ hostOps0_1_W ++ (hostOps0_2_W ++ hostOps0_3_W)) (h3 : x ∉ Num.writes) :
      W3 m c (Proc.devRef .tc x) = m (c.tc.loc x) :=
    (W3_keeps m c x h3).trans ((W2_keeps m c x h2).trans (W1_arg m c x h0 h1))
  simp only [W4, afterL_cons, afterL_nil]
  funext q
  refine (row_loss (W3 m c) (fun b => lse (fun j => den (crf m c) 2047 b j + (crf m c).eos j)) (num (crf m c) 2047)
    (crf m c).eos (crf m c).tg (fun b => ?_) (num_end m c hY) (fun j => ?_) (fun b l => ?_) q).trans ?_
  · rw [W3_keeps m c _ (by decide)]
    exact logz_entry m c b
  · rw [arg _ (by decide) (by decide) (by decide) (by decide)]; rfl
  · rw [arg _ (by decide) (by decide) (by decide) (by decide)]; exact hY b l
  · rfl

/-- The reference ends with the loss in its result, and its arguments as they were. -/
theorem run (hY : ∀ c, Words m c) : θ_run (defs (F := Ideal)) (onTc (τ := τ) (main (F := Ideal))) ⟨m, fun _ => 0, ρ⟩
    fun r => ∀ c : Dev nD, r.2.mem (c.tc.loc main_v69) = (fun _ => loss (crf m c))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  (θ_run _ _ _).mono (fun r h c => ⟨(h c).1.trans (value m c (hY c)), (h c).2⟩) (Run.run m ρ)

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels
public import proofs.«01_k».proof.Proof.KerRun
public import proofs.«01_k».proof.Proof.RefEnd
public import Idealize.ShloMosaic.Adequacy
public import Idealize.ShloMosaic.Init

@[expose] public section

noncomputable section

namespace Cert.Proof

open Idealize.ShloMosaic Idealize.SL.Sem

/-- The reference runs, leaves its arguments alone and ends with every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems (by decide) r.2⟩) (Cert.ReferenceIdeal.Run.run m g)

/-- Kernel and reference end with the same loss. -/
theorem same_loss : Cert.algebraic_KernelIdeal_ReferenceIdeal_pre_labels := by
  intro m g m' g' hpre hargs
  have hY : ∀ c, Cert.KernelIdeal.Val.Words (Cert.KernelIdeal.Val.crf m c)
      (m ((c.tc : Thread Cert.KernelIdeal.nD Cert.KernelIdeal.τ).loc Cert.KernelIdeal.main_arg4)) :=
    fun c b l => Cert.Spec.target_word _ _ _ _ _ (hpre c) b l
  have same : ∀ c, Cert.ReferenceIdeal.Val.crf m' c = Cert.KernelIdeal.Val.crf m c := fun c => by
    obtain ⟨h0, h1, h2, h3, h4⟩ := hargs c
    unfold Cert.ReferenceIdeal.Val.crf Cert.KernelIdeal.Val.crf
    rw [h0, h1, h2, h3, h4]
  have hY' : ∀ c, Cert.ReferenceIdeal.Val.Words m' c := fun c b l => by
    rw [same c]
    exact (congrFun (hargs c).2.2.2.2 (ix2 b l)).trans (hY c b l)
  refine ⟨fun c _ => Cert.Spec.loss (Cert.KernelIdeal.Val.crf m c), Cert.KernelIdeal.Val.run m g hY, ?_⟩
  refine (θ_run _ _ _).mono (fun r h c => ⟨(h c).1.trans ?_, (h c).2⟩) (Cert.ReferenceIdeal.Val.run m' g' hY')
  rw [same c]
  rfl

theorem claim : Cert.Claim :=
  ⟨Cert.Kernel.Gen.facts, Cert.KernelIdeal.Gen.facts, Cert.ReferenceIdeal.Gen.facts, Cert.Pre_labels.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, same_loss⟩

end Cert.Proof

end
